-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v49_0)) (v1 : (c : Dev Cert.ProjectIdeal.nD) → Buf (Elt Ideal) ((c.tc : Thread Cert.ProjectIdeal.nD Cert.ProjectIdeal.τ).loc Cert.ProjectIdeal.main_v49_3)) (v2 : (c : Dev Cert.ProjectIdeal.nD) → Buf (Elt Ideal) ((c.tc : Thread Cert.ProjectIdeal.nD Cert.ProjectIdeal.τ).loc Cert.ProjectIdeal.main_v49_4)) (v3 : (c : Dev Cert.ProjectIdeal.nD) → Buf (Elt Ideal) ((c.tc : Thread Cert.ProjectIdeal.nD Cert.ProjectIdeal.τ).loc Cert.ProjectIdeal.main_v49_5)) (v4 : (c : Dev Cert.ProjectIdeal.nD) → Buf (Elt Ideal) ((c.tc : Thread Cert.ProjectIdeal.nD Cert.ProjectIdeal.τ).loc Cert.ProjectIdeal.main_v49_6)) (v5 : (c : Dev Cert.ProjectIdeal.nD) → Buf (Elt Ideal) ((c.tc : Thread Cert.ProjectIdeal.nD Cert.ProjectIdeal.τ).loc Cert.ProjectIdeal.main_v49_7)) (v6 : (c : Dev Cert.ProjectIdeal.nD) → Buf (Elt Ideal) ((c.tc : Thread Cert.ProjectIdeal.nD Cert.ProjectIdeal.τ).loc Cert.ProjectIdeal.main_v49_8)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v49_0) = v0 c
          ∧ r.2.mem ((c.tc : Thread Cert.ProjectIdeal.nD Cert.ProjectIdeal.τ).loc Cert.ProjectIdeal.main_v49_3) = v1 c
          ∧ r.2.mem ((c.tc : Thread Cert.ProjectIdeal.nD Cert.ProjectIdeal.τ).loc Cert.ProjectIdeal.main_v49_4) = v2 c
          ∧ r.2.mem ((c.tc : Thread Cert.ProjectIdeal.nD Cert.ProjectIdeal.τ).loc Cert.ProjectIdeal.main_v49_5) = v3 c
          ∧ r.2.mem ((c.tc : Thread Cert.ProjectIdeal.nD Cert.ProjectIdeal.τ).loc Cert.ProjectIdeal.main_v49_6) = v4 c
          ∧ r.2.mem ((c.tc : Thread Cert.ProjectIdeal.nD Cert.ProjectIdeal.τ).loc Cert.ProjectIdeal.main_v49_7) = v5 c
          ∧ r.2.mem ((c.tc : Thread Cert.ProjectIdeal.nD Cert.ProjectIdeal.τ).loc Cert.ProjectIdeal.main_v49_8) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v130) = v0 c
          ∧ r.2.mem ((c.tc : Thread Cert.ProjectReferenceIdeal.nD Cert.ProjectReferenceIdeal.τ).loc Cert.ProjectReferenceIdeal.main_v131) = v1 c
          ∧ r.2.mem ((c.tc : Thread Cert.ProjectReferenceIdeal.nD Cert.ProjectReferenceIdeal.τ).loc Cert.ProjectReferenceIdeal.main_v132) = v2 c
          ∧ r.2.mem ((c.tc : Thread Cert.ProjectReferenceIdeal.nD Cert.ProjectReferenceIdeal.τ).loc Cert.ProjectReferenceIdeal.main_v134) = v3 c
          ∧ r.2.mem ((c.tc : Thread Cert.ProjectReferenceIdeal.nD Cert.ProjectReferenceIdeal.τ).loc Cert.ProjectReferenceIdeal.main_v141) = v4 c
          ∧ r.2.mem ((c.tc : Thread Cert.ProjectReferenceIdeal.nD Cert.ProjectReferenceIdeal.τ).loc Cert.ProjectReferenceIdeal.main_v144) = v5 c
          ∧ r.2.mem ((c.tc : Thread Cert.ProjectReferenceIdeal.nD Cert.ProjectReferenceIdeal.τ).loc Cert.ProjectReferenceIdeal.main_v145) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v8)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v8) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v27) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v23) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hDense : Cert.Dense.Facts) (hDenseIdeal : Cert.DenseIdeal.Facts) (hDenseReferenceIdeal : Cert.DenseReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Dense (hDense := hDense)
    ∧ quiescent_DenseIdeal (hDenseIdeal := hDenseIdeal)
    ∧ quiescent_DenseReferenceIdeal (hDenseReferenceIdeal := hDenseReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal (hProjectIdeal := hProjectIdeal) (hProjectReferenceIdeal := hProjectReferenceIdeal)
    ∧ preserves_Dense_DenseIdeal
    ∧ algebraic_DenseIdeal_DenseReferenceIdeal (hDenseIdeal := hDenseIdeal) (hDenseReferenceIdeal := hDenseReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S1x16384x1024 : Shape := ⟨3, ![1, 16384, 1024]⟩
abbrev S1x1x1024 : Shape := ⟨3, ![1, 1, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S1024x8 1) : IVec S_ 1 :=
  let main_c_5 : IVec S_ 1 := constantI S_ 1 1#1
  let main_v17 : IVec S_ 1 := (fun x v => Host.reduce IntOp.andi x v reducesTo_S1024x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S1x16384x1024 .f32) (main_arg1 : FVec F S1x1x1024 .f32) (main_arg2 : FVec F S1x1x1024 .f32) (main_arg3 : FVec F S1x1x1024 .f32) (main_arg4 : FVec F S1024 .f32) (main_arg5 : FVec F S1024x8 .f32) (main_arg6 : FVec F S8 .f32) (main_arg7 : FVec F S8x1024x3584 .f32) (main_arg8 : FVec F S8x1024x3584 .f32) (main_arg9 : FVec F S8x3584x1024 .f32) (main_arg10 : FVec F S1024 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x8 .f32 := Host.absf main_arg5
  let main_cst_4 : FVec F S_ .f32 := constant S_ .f32 0x7F800000#32
  let main_v15 : FVec F S1024x8 .f32 := broadcastInDim S1024x8 ![] bcast_S_S1024x8 main_cst_4
  let main_v16 : IVec S1024x8 1 := cmpf .olt main_v14 main_v15
  fn_part1 (F := F) main_arg6 main_v13 main_v16
-- ==== Kernel.lean ====
abbrev S1x16384x1024 : Shape := ⟨3, ![1, 16384, 1024]⟩
abbrev S1x1x1024 : Shape := ⟨3, ![1, 1, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S16384x1024 : Shape := ⟨2, ![16384, 1024]⟩
abbrev S1x1024 : Shape := ⟨2, ![1, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S512x1024 : Shape := ⟨2, ![512, 1024]⟩
abbrev S1x1024x512 : Shape := ⟨3, ![1, 1024, 512]⟩
abbrev S1x512x1024 : Shape := ⟨3, ![1, 512, 1024]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1024x512 : Shape := ⟨2, ![1024, 512]⟩
abbrev S512x512 : Shape := ⟨2, ![512, 512]⟩

abbrev nBuf : Space → Nat
  | .hbm => 28
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S1024, .f32⟩
  | .hbm, ⟨11, _⟩ => ⟨S16384x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8x1024x3584, .bf16⟩
  | .hbm, ⟨25, _⟩ => ⟨S8x1024x3584, .bf16⟩
  | .hbm, ⟨26, _⟩ => ⟨S8x3584x1024, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S8x512x128, .f32⟩
  | .local _ .vmem, ⟨19, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨3, ![32, 8, 7], ![false, false, false]⟩

def k0_off1 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c6_i32 : BitVec 32 := 6#32
  let v4 : BitVec 1 := Scalar.cmpi .eq arg2 c6_i32
  let v5 : BitVec 1 := Scalar.andi v3 v4
  let v81 : BitVec 32 := Scalar.extui v5
  let c0_i32_41 : BitVec 32 := 0#32
  let v82 : BitVec 1 := Scalar.cmpi .ne v81 c0_i32_41
  v82

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== ReferenceIdeal.lean ====
abbrev S1x16384x1024 : Shape := ⟨3, ![1, 16384, 1024]⟩
abbrev S1x1x1024 : Shape := ⟨3, ![1, 1, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S1x16384 : Shape := ⟨2, ![1, 16384]⟩
abbrev S1x16384x1 : Shape := ⟨3, ![1, 16384, 1]⟩
abbrev S1x16384x8 : Shape := ⟨3, ![1, 16384, 8]⟩
abbrev S1x1x8 : Shape := ⟨3, ![1, 1, 8]⟩
abbrev S1x16384x2 : Shape := ⟨3, ![1, 16384, 2]⟩
abbrev S1x16384x2x1 : Shape := ⟨4, ![1, 16384, 2, 1]⟩
abbrev S1x1x1x8 : Shape := ⟨4, ![1, 1, 1, 8]⟩
abbrev S1x16384x2x8 : Shape := ⟨4, ![1, 16384, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S1x16384x3584 : Shape := ⟨3, ![1, 16384, 3584]⟩
abbrev S16384x1024 : Shape := ⟨2, ![16384, 1024]⟩

abbrev nBuf : Space → Nat
  | .hbm => 268
  | .vmem => 0
  | .smem => 0
  | _ => 0

abbrev hbmTy0_0 (i : Nat) : BufTy := match i % 128 with
  | 0 => ⟨S1x16384x1024, .f32⟩
  | 1 => ⟨S1x1x1024, .f32⟩
  | 2 => ⟨S1x1x1024, .f32⟩
  | 3 => ⟨S1x1x1024, .f32⟩
  | 4 => ⟨S1024, .f32⟩
  | 5 => ⟨S1024x8, .f32⟩
  | 6 => ⟨S8, .f32⟩
  | 7 => ⟨S8x1024x3584, .f32⟩
  | 8 => ⟨S8x1024x3584, .f32⟩
  | 9 => ⟨S8x3584x1024, .f32⟩
  | 10 => ⟨S1024, .f32⟩
  | 11 => ⟨S1x16384x1024, .f32⟩
  | 12 => ⟨S_, .f32⟩
  | 13 => ⟨S1x16384, .f32⟩
  | 14 => ⟨S1x16384x1, .f32⟩
  | 15 => ⟨S_, .f32⟩
  | 16 => ⟨S1x16384x1, .f32⟩
  | 17 => ⟨S1x16384x1, .f32⟩
  | 18 => ⟨S_, .f32⟩
  | 19 => ⟨S1x16384x1, .f32⟩
  | 20 => ⟨S1x16384x1, .f32⟩
  | 21 => ⟨S1x16384x1, .f32⟩
  | 22 => ⟨S1x16384x1024, .f32⟩
  | 23 => ⟨S1x16384x1024, .f32⟩
  | 24 => ⟨S1x1x1024, .f32⟩
  | 25 => ⟨S1x16384x1024, .f32⟩
  | 26 => ⟨S1x16384x1024, .f32⟩
  | 27 => ⟨S_, .f32⟩
  | 28 => ⟨S1x1x1024, .f32⟩
  | 29 => ⟨S1x1x1024, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x8, .f32⟩
  | 35 => ⟨S1x1x8, .f32⟩
  | 36 => ⟨S1x16384x8, .f32⟩
  | 37 => ⟨S1x16384x8, .f32⟩
  | 38 => ⟨S1x16384x2, .f32⟩
  | 39 => ⟨S1x16384x2, .i32⟩
  | 40 => ⟨S_, .f32⟩
  | 41 => ⟨S1x16384, .f32⟩
  | 42 => ⟨S_, .f32⟩
  | 43 => ⟨S1x16384, .f32⟩
  | 44 => ⟨S1x16384, .f32⟩
  | 45 => ⟨S1x16384x1, .f32⟩
  | 46 => ⟨S1x16384x2, .f32⟩
  | 47 => ⟨S1x16384x2, .f32⟩
  | 48 => ⟨S1x16384x2, .f32⟩
  | 49 => ⟨S_, .f32⟩
  | 50 => ⟨S1x16384, .f32⟩
  | 51 => ⟨S1x16384x1, .f32⟩
  | 52 => ⟨S1x16384x2, .f32⟩
  | 53 => ⟨S1x16384x2, .f32⟩
  | 54 => ⟨S1x16384x2x1, .i32⟩
  | 55 => ⟨S1x1x1x8, .i32⟩
  | 56 => ⟨S1x16384x2x8, .i32⟩
  | 57 => ⟨S1x16384x2x8, .i32⟩
  | 58 => ⟨S1x16384x2x8, .i1⟩
  | 59 => ⟨S1x16384x2x8, .f32⟩
  | 60 => ⟨S1x16384x2x1, .f32⟩
  | 61 => ⟨S1x16384x2x8, .f32⟩
  | 62 => ⟨S1x16384x2x8, .f32⟩
  | 63 => ⟨S_, .f32⟩
  | 64 => ⟨S1x16384x8, .f32⟩
  | 65 => ⟨S1x16384x1, .f32⟩
  | 66 => ⟨S1x1024x3584, .f32⟩
  | 67 => ⟨S1024x3584, .f32⟩
  | 68 => ⟨S1x1024x3584, .f32⟩
  | 69 => ⟨S1024x3584, .f32⟩
  | 70 => ⟨S1x3584x1024, .f32⟩
  | 71 => ⟨S3584x1024, .f32⟩
  | 72 => ⟨S1x16384x3584, .f32⟩
  | 73 => ⟨S1x16384x3584, .f32⟩
  | 74 => ⟨S1x16384x3584, .f32⟩
  | 75 => ⟨S_, .f32⟩
  | 76 => ⟨S1x16384x3584, .f32⟩
  | 77 => ⟨S1x16384x3584, .f32⟩
  | 78 => ⟨S_, .f32⟩
  | 79 => ⟨S1x16384x3584, .f32⟩
  | 80 => ⟨S1x16384x3584, .f32⟩
  | 81 => ⟨S1x16384x3584, .f32⟩
  | 82 => ⟨S1x16384x3584, .f32⟩
  | 83 => ⟨S1x16384x3584, .f32⟩
  | 84 => ⟨S1x16384x1024, .f32⟩
  | 85 => ⟨S1x16384x1024, .f32⟩
  | 86 => ⟨S1x16384x1024, .f32⟩
  | 87 => ⟨S1x16384x1, .f32⟩
  | 88 => ⟨S1x1024x3584, .f32⟩
  | 89 => ⟨S1024x3584, .f32⟩
  | 90 => ⟨S1x1024x3584, .f32⟩
  | 91 => ⟨S1024x3584, .f32⟩
  | 92 => ⟨S1x3584x1024, .f32⟩
  | 93 => ⟨S3584x1024, .f32⟩
  | 94 => ⟨S1x16384x3584, .f32⟩
  | 95 => ⟨S1x16384x3584, .f32⟩
  | 96 => ⟨S1x16384x3584, .f32⟩
  | 97 => ⟨S_, .f32⟩
  | 98 => ⟨S1x16384x3584, .f32⟩
  | 99 => ⟨S1x16384x3584, .f32⟩
  | 100 => ⟨S_, .f32⟩
  | 101 => ⟨S1x16384x3584, .f32⟩
  | 102 => ⟨S1x16384x3584, .f32⟩
  | 103 => ⟨S1x16384x3584, .f32⟩
  | 104 => ⟨S1x16384x3584, .f32⟩
  | 105 => ⟨S1x16384x3584, .f32⟩
  | 106 => ⟨S1x16384x1024, .f32⟩
  | 107 => ⟨S1x16384x1024, .f32⟩
  | 108 => ⟨S1x16384x1024, .f32⟩
  | 109 => ⟨S1x16384x1024, .f32⟩
  | 110 => ⟨S1x16384x1, .f32⟩
  | 111 => ⟨S1x1024x3584, .f32⟩
  | 112 => ⟨S1024x3584, .f32⟩
  | 113 => ⟨S1x1024x3584, .f32⟩
  | 114 => ⟨S1024x3584, .f32⟩
  | 115 => ⟨S1x3584x1024, .f32⟩
  | 116 => ⟨S3584x1024, .f32⟩
  | 117 => ⟨S1x16384x3584, .f32⟩
  | 118 => ⟨S1x16384x3584, .f32⟩
  | 119 => ⟨S1x16384x3584, .f32⟩
  | 120 => ⟨S_, .f32⟩
  | 121 => ⟨S1x16384x3584, .f32⟩
  | 122 => ⟨S1x16384x3584, .f32⟩
  | 123 => ⟨S_, .f32⟩
  | 124 => ⟨S1x16384x3584, .f32⟩
  | 125 => ⟨S1x16384x3584, .f32⟩
  | 126 => ⟨S1x16384x3584, .f32⟩
  | 127 => ⟨S1x16384x3584, .f32⟩
  | _ => ⟨S1x16384x1024, .f32⟩

abbrev hbmTy0_1 (i : Nat) : BufTy := match i % 128 with
  | 0 => ⟨S1x16384x3584, .f32⟩
  | 1 => ⟨S1x16384x1024, .f32⟩
  | 2 => ⟨S1x16384x1024, .f32⟩
  | 3 => ⟨S1x16384x1024, .f32⟩
  | 4 => ⟨S1x16384x1024, .f32⟩
  | 5 => ⟨S1x16384x1, .f32⟩
  | 6 => ⟨S1x1024x3584, .f32⟩
  | 7 => ⟨S1024x3584, .f32⟩
  | 8 => ⟨S1x1024x3584, .f32⟩
  | 9 => ⟨S1024x3584, .f32⟩
  | 10 => ⟨S1x3584x1024, .f32⟩
  | 11 => ⟨S3584x1024, .f32⟩
  | 12 => ⟨S1x16384x3584, .f32⟩
  | 13 => ⟨S1x16384x3584, .f32⟩
  | 14 => ⟨S1x16384x3584, .f32⟩
  | 15 => ⟨S_, .f32⟩
  | 16 => ⟨S1x16384x3584, .f32⟩
  | 17 => ⟨S1x16384x3584, .f32⟩
  | 18 => ⟨S_, .f32⟩
  | 19 => ⟨S1x16384x3584, .f32⟩
  | 20 => ⟨S1x16384x3584, .f32⟩
  | 21 => ⟨S1x16384x3584, .f32⟩
  | 22 => ⟨S1x16384x3584, .f32⟩
  | 23 => ⟨S1x16384x3584, .f32⟩
  | 24 => ⟨S1x16384x1024, .f32⟩
  | 25 => ⟨S1x16384x1024, .f32⟩
  | 26 => ⟨S1x16384x1024, .f32⟩
  | 27 => ⟨S1x16384x1024, .f32⟩
  | 28 => ⟨S1x16384x1, .f32⟩
  | 29 => ⟨S1x1024x3584, .f32⟩
  | 30 => ⟨S1024x3584, .f32⟩
  | 31 => ⟨S1x1024x3584, .f32⟩
  | 32 => ⟨S1024x3584, .f32⟩
  | 33 => ⟨S1x3584x1024, .f32⟩
  | 34 => ⟨S3584x1024, .f32⟩
  | 35 => ⟨S1x16384x3584, .f32⟩
  | 36 => ⟨S1x16384x3584, .f32⟩
  | 37 => ⟨S1x16384x3584, .f32⟩
  | 38 => ⟨S_, .f32⟩
  | 39 => ⟨S1x16384x3584, .f32⟩
  | 40 => ⟨S1x16384x3584, .f32⟩
  | 41 => ⟨S_, .f32⟩
  | 42 => ⟨S1x16384x3584, .f32⟩
  | 43 => ⟨S1x16384x3584, .f32⟩
  | 44 => ⟨S1x16384x3584, .f32⟩
  | 45 => ⟨S1x16384x3584, .f32⟩
  | 46 => ⟨S1x16384x3584, .f32⟩
  | 47 => ⟨S1x16384x1024, .f32⟩
  | 48 => ⟨S1x16384x1024, .f32⟩
  | 49 => ⟨S1x16384x1024, .f32⟩
  | 50 => ⟨S1x16384x1024, .f32⟩
  | 51 => ⟨S1x16384x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S1x16384x3584, .f32⟩
  | 59 => ⟨S1x16384x3584, .f32⟩
  | 60 => ⟨S1x16384x3584, .f32⟩
  | 61 => ⟨S_, .f32⟩
  | 62 => ⟨S1x16384x3584, .f32⟩
  | 63 => ⟨S1x16384x3584, .f32⟩
  | 64 => ⟨S_, .f32⟩
  | 65 => ⟨S1x16384x3584, .f32⟩
  | 66 => ⟨S1x16384x3584, .f32⟩
  | 67 => ⟨S1x16384x3584, .f32⟩
  | 68 => ⟨S1x16384x3584, .f32⟩
  | 69 => ⟨S1x16384x3584, .f32⟩
  | 70 => ⟨S1x16384x1024, .f32⟩
  | 71 => ⟨S1x16384x1024, .f32⟩
  | 72 => ⟨S1x16384x1024, .f32⟩
  | 73 => ⟨S1x16384x1024, .f32⟩
  | 74 => ⟨S1x16384x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S1x16384x3584, .f32⟩
  | 82 => ⟨S1x16384x3584, .f32⟩
  | 83 => ⟨S1x16384x3584, .f32⟩
  | 84 => ⟨S_, .f32⟩
  | 85 => ⟨S1x16384x3584, .f32⟩
  | 86 => ⟨S1x16384x3584, .f32⟩
  | 87 => ⟨S_, .f32⟩
  | 88 => ⟨S1x16384x3584, .f32⟩
  | 89 => ⟨S1x16384x3584, .f32⟩
  | 90 => ⟨S1x16384x3584, .f32⟩
  | 91 => ⟨S1x16384x3584, .f32⟩
  | 92 => ⟨S1x16384x3584, .f32⟩
  | 93 => ⟨S1x16384x1024, .f32⟩
  | 94 => ⟨S1x16384x1024, .f32⟩
  | 95 => ⟨S1x16384x1024, .f32⟩
  | 96 => ⟨S1x16384x1024, .f32⟩
  | 97 => ⟨S1x16384x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S1x16384x3584, .f32⟩
  | 105 => ⟨S1x16384x3584, .f32⟩
  | 106 => ⟨S1x16384x3584, .f32⟩
  | 107 => ⟨S_, .f32⟩
  | 108 => ⟨S1x16384x3584, .f32⟩
  | 109 => ⟨S1x16384x3584, .f32⟩
  | 110 => ⟨S_, .f32⟩
  | 111 => ⟨S1x16384x3584, .f32⟩
  | 112 => ⟨S1x16384x3584, .f32⟩
  | 113 => ⟨S1x16384x3584, .f32⟩
  | 114 => ⟨S1x16384x3584, .f32⟩
  | 115 => ⟨S1x16384x3584, .f32⟩
  | 116 => ⟨S1x16384x1024, .f32⟩
  | 117 => ⟨S1x16384x1024, .f32⟩
  | 118 => ⟨S1x16384x1024, .f32⟩
  | 119 => ⟨S1x16384x1024, .f32⟩
  | 120 => ⟨S1x16384x1024, .f32⟩
  | 121 => ⟨S1x16384x1024, .f32⟩
  | 122 => ⟨S1x16384x1024, .f32⟩
  | 123 => ⟨S1x16384x1024, .f32⟩
  | 124 => ⟨S_, .f32⟩
  | 125 => ⟨S1x16384, .f32⟩
  | 126 => ⟨S1x16384x1, .f32⟩
  | 127 => ⟨S_, .f32⟩
  | _ => ⟨S1x16384x1024, .f32⟩

abbrev hbmTy0_2 (i : Nat) : BufTy := match i % 128 with
  | 0 => ⟨S1x16384x1, .f32⟩
  | 1 => ⟨S1x16384x1, .f32⟩
  | 2 => ⟨S_, .f32⟩
  | 3 => ⟨S1x16384x1, .f32⟩
  | 4 => ⟨S1x16384x1, .f32⟩
  | 5 => ⟨S1x16384x1, .f32⟩
  | 6 => ⟨S1x16384x1024, .f32⟩
  | 7 => ⟨S1x16384x1024, .f32⟩
  | 8 => ⟨S1x1x1024, .f32⟩
  | 9 => ⟨S1x16384x1024, .f32⟩
  | 10 => ⟨S1x16384x1024, .f32⟩
  | 11 => ⟨S16384x1024, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_values : Ref sig .tc := ⟨.hbm, 38, rfl⟩
abbrev main_indices : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call6_v0 : Ref sig .tc := ⟨.hbm, 187, rfl⟩
abbrev main_call6_v1 : Ref sig .tc := ⟨.hbm, 188, rfl⟩
abbrev main_call6_cst : Ref sig .tc := ⟨.hbm, 189, rfl⟩
abbrev main_call6_v2 : Ref sig .tc := ⟨.hbm, 190, rfl⟩
abbrev main_call6_v3 : Ref sig .tc := ⟨.hbm, 191, rfl⟩
abbrev main_call6_cst_0 : Ref sig .tc := ⟨.hbm, 192, rfl⟩
abbrev main_call6_v4 : Ref sig .tc := ⟨.hbm, 193, rfl⟩
abbrev main_call6_v5 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_call7_v0 : Ref sig .tc := ⟨.hbm, 210, rfl⟩
abbrev main_call7_v1 : Ref sig .tc := ⟨.hbm, 211, rfl⟩
abbrev main_call7_cst : Ref sig .tc := ⟨.hbm, 212, rfl⟩
abbrev main_call7_v2 : Ref sig .tc := ⟨.hbm, 213, rfl⟩
abbrev main_call7_v3 : Ref sig .tc := ⟨.hbm, 214, rfl⟩
abbrev main_call7_cst_0 : Ref sig .tc := ⟨.hbm, 215, rfl⟩
abbrev main_call7_v4 : Ref sig .tc := ⟨.hbm, 216, rfl⟩
abbrev main_call7_v5 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_call8_v0 : Ref sig .tc := ⟨.hbm, 233, rfl⟩
abbrev main_call8_v1 : Ref sig .tc := ⟨.hbm, 234, rfl⟩
abbrev main_call8_cst : Ref sig .tc := ⟨.hbm, 235, rfl⟩
abbrev main_call8_v2 : Ref sig .tc := ⟨.hbm, 236, rfl⟩
abbrev main_call8_v3 : Ref sig .tc := ⟨.hbm, 237, rfl⟩
abbrev main_call8_cst_0 : Ref sig .tc := ⟨.hbm, 238, rfl⟩
abbrev main_call8_v4 : Ref sig .tc := ⟨.hbm, 239, rfl⟩
abbrev main_call8_v5 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_7 : Ref sig .tc := ⟨.hbm, 252, rfl⟩
abbrev main_v162 : Ref sig .tc := ⟨.hbm, 253, rfl⟩
abbrev main_v163 : Ref sig .tc := ⟨.hbm, 254, rfl⟩
abbrev main_cst_8 : Ref sig .tc := ⟨.hbm, 255, rfl⟩
abbrev main_v164 : Ref sig .tc := ⟨.hbm, 256, rfl⟩
abbrev main_v165 : Ref sig .tc := ⟨.hbm, 257, rfl⟩
abbrev main_cst_9 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩

abbrev nD : Nat := 1
abbrev τ : Topo := Topo.v7x

variable {F : FTy → Type} [FloatOps F]
-- ==== Project.lean ====
abbrev S1x16384x1024 : Shape := ⟨3, ![1, 16384, 1024]⟩
abbrev S1x1x1024 : Shape := ⟨3, ![1, 1, 1024]⟩
abbrev S1024 : Shape := ⟨1, ![1024]⟩
abbrev S1024x6148 : Shape := ⟨2, ![1024, 6148]⟩
abbrev S4 : Shape := ⟨1, ![4]⟩
abbrev S1024x3072 : Shape := ⟨2, ![1024, 3072]⟩
abbrev S1024x4 : Shape := ⟨2, ![1024, 4]⟩
abbrev S4x1024 : Shape := ⟨2, ![4, 1024]⟩
abbrev S_ : Shape := ⟨0, ![]⟩
abbrev S8x1024 : Shape := ⟨2, ![8, 1024]⟩
abbrev S4x1 : Shape := ⟨2, ![4, 1]⟩
abbrev S8x1 : Shape := ⟨2, ![8, 1]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S16384x1024 : Shape := ⟨2, ![16384, 1024]⟩
abbrev S8x16384x128 : Shape := ⟨3, ![8, 16384, 128]⟩
abbrev S8x16384 : Shape := ⟨2, ![8, 16384]⟩
abbrev S16384x3072 : Shape := ⟨2, ![16384, 3072]⟩
abbrev S16384x512 : Shape := ⟨2, ![16384, 512]⟩
abbrev S32x2x512 : Shape := ⟨3, ![32, 2, 512]⟩
abbrev S512x1024 : Shape := ⟨2, ![512, 1024]⟩
abbrev S512x128 : Shape := ⟨2, ![512, 128]⟩
abbrev S8x512x128 : Shape := ⟨3, ![8, 512, 128]⟩
abbrev S8x512 : Shape := ⟨2, ![8, 512]⟩
abbrev S512x3072 : Shape := ⟨2, ![512, 3072]⟩
abbrev S512x512 : Shape := ⟨2, ![512, 512]⟩
abbrev S1x2x512 : Shape := ⟨3, ![1, 2, 512]⟩
abbrev S512 : Shape := ⟨1, ![512]⟩
abbrev S512x1 : Shape := ⟨2, ![512, 1]⟩
abbrev S1024x512 : Shape := ⟨2, ![1024, 512]⟩
abbrev S1x512x128 : Shape := ⟨3, ![1, 512, 128]⟩
abbrev S2x256x128 : Shape := ⟨3, ![2, 256, 128]⟩
abbrev S2x128 : Shape := ⟨2, ![2, 128]⟩
abbrev S1x2x128 : Shape := ⟨3, ![1, 2, 128]⟩

abbrev nBuf : Space → Nat
  | .hbm => 75
  | .vmem => 33
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x6148, .f32⟩
  | .hbm, ⟨5, _⟩ => ⟨S4, .f32⟩
  | .hbm, ⟨6, _⟩ => ⟨S1024x3072, .f32⟩
  | .hbm, ⟨7, _⟩ => ⟨S1024x3072, .bf16⟩
  | .hbm, ⟨8, _⟩ => ⟨S1024x4, .f32⟩
  | .hbm, ⟨9, _⟩ => ⟨S4x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S8x1024, .bf16⟩
  | .hbm, ⟨14, _⟩ => ⟨S4x1, .f32⟩
  | .hbm, ⟨15, _⟩ => ⟨S_, .i32⟩
  | .hbm, ⟨16, _⟩ => ⟨S_, .f32⟩
  | .hbm, ⟨17, _⟩ => ⟨S8x1, .f32⟩
  | .hbm, ⟨18, _⟩ => ⟨S1024x3072, .f32⟩
  | .hbm, ⟨19, _⟩ => ⟨S1024x3072, .bf16⟩
  | .hbm, ⟨20, _⟩ => ⟨S16384, .i32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S16384, .f32⟩
  | .hbm, ⟨36, _⟩ => ⟨S16384x1, .f32⟩
  | .hbm, ⟨37, _⟩ => ⟨S1x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S_, .f32⟩
  | .hbm, ⟨44, _⟩ => ⟨S16384x48, .f32⟩
  | .hbm, ⟨45, _⟩ => ⟨S_, .f32⟩
  | .hbm, ⟨46, _⟩ => ⟨S16384x48, .f32⟩
  | .hbm, ⟨47, _⟩ => ⟨S_, .f32⟩
  | .hbm, ⟨48, _⟩ => ⟨S16384x8, .f32⟩
  | .hbm, ⟨49, _⟩ => ⟨S16384x64, .f32⟩
  | .hbm, ⟨50, _⟩ => ⟨S16384x8, .f32⟩
  | .hbm, ⟨51, _⟩ => ⟨S16384x64, .f32⟩
  | .hbm, ⟨52, _⟩ => ⟨S16384x64, .f32⟩
  | .hbm, ⟨53, _⟩ => ⟨S1x16384x1x64, .f32⟩
  | .hbm, ⟨54, _⟩ => ⟨S1x16384x2x64, .f32⟩
  | .hbm, ⟨55, _⟩ => ⟨S16384x128, .f32⟩
  | .hbm, ⟨56, _⟩ => ⟨S1x16384x1x64, .f32⟩
  | .hbm, ⟨57, _⟩ => ⟨S1x16384x2x64, .f32⟩
  | .hbm, ⟨58, _⟩ => ⟨S16384x128, .f32⟩
  | .hbm, ⟨59, _⟩ => ⟨S1x16384x1x64, .f32⟩
  | .hbm, ⟨60, _⟩ => ⟨S1x16384x2x64, .f32⟩
  | .hbm, ⟨61, _⟩ => ⟨S16384x128, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S16384x1024, .f32⟩
  | .hbm, ⟨66, _⟩ => ⟨S8x16384x128, .bf16⟩
  | .hbm, ⟨67, _⟩ => ⟨S8x16384x128, .bf16⟩
  | .hbm, ⟨68, _⟩ => ⟨S8x16384x128, .bf16⟩
  | .hbm, ⟨69, _⟩ => ⟨S16384x1024, .f32⟩
  | .hbm, ⟨70, _⟩ => ⟨S16384x1024, .f32⟩
  | .hbm, ⟨71, _⟩ => ⟨S8x16384, .f32⟩
  | .hbm, ⟨72, _⟩ => ⟨S16384x3072, .f32⟩
  | .hbm, ⟨73, _⟩ => ⟨S16384x512, .f32⟩
  | .hbm, ⟨74, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S8x1024, .bf16⟩
  | .local _ .vmem, ⟨7, _⟩ => ⟨S8x1, .f32⟩
  | .local _ .vmem, ⟨8, _⟩ => ⟨S1024x3072, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S8x512x128, .bf16⟩
  | .local _ .vmem, ⟨16, _⟩ => ⟨S8x512x128, .bf16⟩
  | .local _ .vmem, ⟨17, _⟩ => ⟨S8x512x128, .bf16⟩
  | .local _ .vmem, ⟨18, _⟩ => ⟨S8x512x128, .bf16⟩
  | .local _ .vmem, ⟨19, _⟩ => ⟨S8x512x128, .bf16⟩
  | .local _ .vmem, ⟨20, _⟩ => ⟨S8x512x128, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S8x512, .f32⟩
  | .local _ .vmem, ⟨26, _⟩ => ⟨S8x512, .f32⟩
  | .local _ .vmem, ⟨27, _⟩ => ⟨S512x3072, .f32⟩
  | .local _ .vmem, ⟨28, _⟩ => ⟨S512x3072, .f32⟩
  | .local _ .vmem, ⟨29, _⟩ => ⟨S512x512, .f32⟩
  | .local _ .vmem, ⟨30, _⟩ => ⟨S512x512, .f32⟩
  | .local _ .vmem, ⟨31, _⟩ => ⟨S1x2x512, .f32⟩
  | .local _ .vmem, ⟨32, _⟩ => ⟨S1x2x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev main_v49_3 : Ref sig .tc := ⟨.hbm, 69, rfl⟩
abbrev main_v49_4 : Ref sig .tc := ⟨.hbm, 70, rfl⟩
abbrev main_v49_5 : Ref sig .tc := ⟨.hbm, 71, rfl⟩
abbrev main_v49_6 : Ref sig .tc := ⟨.hbm, 72, rfl⟩
abbrev main_v49_7 : Ref sig .tc := ⟨.hbm, 73, rfl⟩
abbrev main_v49_8 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjectReferenceIdeal.lean ====
abbrev S1x16384x1024 : Shape := ⟨3, ![1, 16384, 1024]⟩
abbrev S1x1x1024 : Shape := ⟨3, ![1, 1, 1024]⟩
abbrev S1024 : Shape := ⟨1, ![1024]⟩
abbrev S1024x6148 : Shape := ⟨2, ![1024, 6148]⟩
abbrev S4 : Shape := ⟨1, ![4]⟩
abbrev S_ : Shape := ⟨0, ![]⟩
abbrev S1x16384 : Shape := ⟨2, ![1, 16384]⟩
abbrev S1x16384x1 : Shape := ⟨3, ![1, 16384, 1]⟩
abbrev S16384 : Shape := ⟨1, ![16384]⟩
abbrev S1x16384x6148 : Shape := ⟨3, ![1, 16384, 6148]⟩
abbrev S1x16384x16x64 : Shape := ⟨4, ![1, 16384, 16, 64]⟩
abbrev S1x16384x4 : Shape := ⟨3, ![1, 16384, 4]⟩
abbrev S1x1x4 : Shape := ⟨3, ![1, 1, 4]⟩
abbrev S1x16384x3072 : Shape := ⟨3, ![1, 16384, 3072]⟩
abbrev S1x16384x8x64 : Shape := ⟨4, ![1, 16384, 8, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x1x8 : Shape := ⟨3, ![16384, 1, 8]⟩
abbrev S1x16384x8x16 : Shape := ⟨4, ![1, 16384, 8, 16]⟩
abbrev S1x16384x8x8 : Shape := ⟨4, ![1, 16384, 8, 8]⟩
abbrev S1x16384x1x8 : Shape := ⟨4, ![1, 16384, 1, 8]⟩
abbrev S1x16384x8x48 : Shape := ⟨4, ![1, 16384, 8, 48]⟩
abbrev S1x16384x8 : Shape := ⟨3, ![1, 16384, 8]⟩
abbrev S16384x8x64 : Shape := ⟨3, ![16384, 8, 64]⟩
abbrev S64x256x512 : Shape := ⟨3, ![64, 256, 512]⟩
abbrev S64x512 : Shape := ⟨2, ![64, 512]⟩
abbrev S16384x8x128 : Shape := ⟨3, ![16384, 8, 128]⟩
abbrev S8x16384x128 : Shape := ⟨3, ![8, 16384, 128]⟩
abbrev S16384x1024 : Shape := ⟨2, ![16384, 1024]⟩
abbrev S8x16384 : Shape := ⟨2, ![8, 16384]⟩
abbrev S16384x3072 : Shape := ⟨2, ![16384, 3072]⟩
abbrev S16384x512 : Shape := ⟨2, ![16384, 512]⟩
abbrev S32x2x512 : Shape := ⟨3, ![32, 2, 512]⟩

abbrev nBuf : Space → Nat
  | .hbm => 186
  | .vmem => 0
  | .smem => 0
  | _ => 0

abbrev hbmTy0_0 (i : Nat) : BufTy := match i % 128 with
  | 0 => ⟨S1x16384x1024, .f32⟩
  | 1 => ⟨S1x1x1024, .f32⟩
  | 2 => ⟨S1x1x1024, .f32⟩
  | 3 => ⟨S1024, .f32⟩
  | 4 => ⟨S1024x6148, .f32⟩
  | 5 => ⟨S4, .f32⟩
  | 6 => ⟨S1x16384x1024, .f32⟩
  | 7 => ⟨S_, .f32⟩
  | 8 => ⟨S1x16384, .f32⟩
  | 9 => ⟨S1x16384x1, .f32⟩
  | 10 => ⟨S_, .f32⟩
  | 11 => ⟨S1x16384x1, .f32⟩
  | 12 => ⟨S1x16384x1, .f32⟩
  | 13 => ⟨S_, .f32⟩
  | 14 => ⟨S1x16384x1, .f32⟩
  | 15 => ⟨S1x16384x1, .f32⟩
  | 16 => ⟨S1x16384x1, .f32⟩
  | 17 => ⟨S1x16384x1024, .f32⟩
  | 18 => ⟨S1x16384x1024, .f32⟩
  | 19 => ⟨S1x1x1024, .f32⟩
  | 20 => ⟨S1x16384x1024, .f32⟩
  | 21 => ⟨S1x16384x1024, .f32⟩
  | 22 => ⟨S_, .f32⟩
  | 23 => ⟨S1x1x1024, .f32⟩
  | 24 => ⟨S1x1x1024, .f32⟩
  | 25 => ⟨S1x16384x1024, .f32⟩
  | 26 => ⟨S1x16384x1024, .f32⟩
  | 27 => ⟨S1x16384x1024, .f32⟩
  | 28 => ⟨S1x16384x1024, .f32⟩
  | 29 => ⟨S16384, .i32⟩
  | 30 => ⟨S1x16384x6148, .f32⟩
  | 31 => ⟨S1x16384x1024, .f32⟩
  | 32 => ⟨S1x16384x16x64, .f32⟩
  | 33 => ⟨S1x16384x1024, .f32⟩
  | 34 => ⟨S1x16384x16x64, .f32⟩
  | 35 => ⟨S1x16384x1024, .f32⟩
  | 36 => ⟨S1x16384x16x64, .f32⟩
  | 37 => ⟨S1x16384x4, .f32⟩
  | 38 => ⟨S1x1x4, .f32⟩
  | 39 => ⟨S1x16384x4, .f32⟩
  | 40 => ⟨S1x16384x4, .f32⟩
  | 41 => ⟨S1x16384x3072, .f32⟩
  | 42 => ⟨S1x16384x8x64, .f32⟩
  | 43 => ⟨S1x16384x8x64, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S16384, .f32⟩
  | 59 => ⟨S16384x1, .f32⟩
  | 60 => ⟨S1x8, .f32⟩
  | 61 => ⟨S16384x8, .f32⟩
  | 62 => ⟨S16384x8, .f32⟩
  | 63 => ⟨S16384x8, .f32⟩
  | 64 => ⟨S16384x8, .f32⟩
  | 65 => ⟨S16384x1x8, .f32⟩
  | 66 => ⟨S16384x8, .f32⟩
  | 67 => ⟨S16384x1x8, .f32⟩
  | 68 => ⟨S1x16384x8x16, .f32⟩
  | 69 => ⟨S1x16384x8x8, .f32⟩
  | 70 => ⟨S1x16384x8x8, .f32⟩
  | 71 => ⟨S1x16384x1x8, .f32⟩
  | 72 => ⟨S1x16384x8x8, .f32⟩
  | 73 => ⟨S1x16384x8x8, .f32⟩
  | 74 => ⟨S1x16384x1x8, .f32⟩
  | 75 => ⟨S1x16384x8x8, .f32⟩
  | 76 => ⟨S1x16384x8x8, .f32⟩
  | 77 => ⟨S1x16384x8x8, .f32⟩
  | 78 => ⟨S1x16384x1x8, .f32⟩
  | 79 => ⟨S1x16384x8x8, .f32⟩
  | 80 => ⟨S1x16384x8x8, .f32⟩
  | 81 => ⟨S1x16384x1x8, .f32⟩
  | 82 => ⟨S1x16384x8x8, .f32⟩
  | 83 => ⟨S1x16384x8x8, .f32⟩
  | 84 => ⟨S1x16384x8x8, .f32⟩
  | 85 => ⟨S1x16384x8x16, .f32⟩
  | 86 => ⟨S1x16384x8x48, .f32⟩
  | 87 => ⟨S1x16384x8x64, .f32⟩
  | 88 => ⟨S1x16384x16x64, .f32⟩
  | 89 => ⟨S1x16384x8x64, .f32⟩
  | 90 => ⟨S1x16384x8x64, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S16384, .f32⟩
  | 106 => ⟨S16384x1, .f32⟩
  | 107 => ⟨S1x8, .f32⟩
  | 108 => ⟨S16384x8, .f32⟩
  | 109 => ⟨S16384x8, .f32⟩
  | 110 => ⟨S16384x8, .f32⟩
  | 111 => ⟨S16384x8, .f32⟩
  | 112 => ⟨S16384x1x8, .f32⟩
  | 113 => ⟨S16384x8, .f32⟩
  | 114 => ⟨S16384x1x8, .f32⟩
  | 115 => ⟨S1x16384x8x16, .f32⟩
  | 116 => ⟨S1x16384x8x8, .f32⟩
  | 117 => ⟨S1x16384x8x8, .f32⟩
  | 118 => ⟨S1x16384x1x8, .f32⟩
  | 119 => ⟨S1x16384x8x8, .f32⟩
  | 120 => ⟨S1x16384x8x8, .f32⟩
  | 121 => ⟨S1x16384x1x8, .f32⟩
  | 122 => ⟨S1x16384x8x8, .f32⟩
  | 123 => ⟨S1x16384x8x8, .f32⟩
  | 124 => ⟨S1x16384x8x8, .f32⟩
  | 125 => ⟨S1x16384x1x8, .f32⟩
  | 126 => ⟨S1x16384x8x8, .f32⟩
  | 127 => ⟨S1x16384x8x8, .f32⟩
  | _ => ⟨S1x16384x1024, .f32⟩

abbrev hbmTy0_1 (i : Nat) : BufTy := match i % 128 with
  | 0 => ⟨S1x16384x1x8, .f32⟩
  | 1 => ⟨S1x16384x8x8, .f32⟩
  | 2 => ⟨S1x16384x8x8, .f32⟩
  | 3 => ⟨S1x16384x8x8, .f32⟩
  | 4 => ⟨S1x16384x8x16, .f32⟩
  | 5 => ⟨S1x16384x8x48, .f32⟩
  | 6 => ⟨S1x16384x8x64, .f32⟩
  | 7 => ⟨S1x16384x16x64, .f32⟩
  | 8 => ⟨S_, .i32⟩
  | 9 => ⟨S_, .f32⟩
  | 10 => ⟨S1x16384x8, .f32⟩
  | 11 => ⟨S1x16384x8, .f32⟩
  | 12 => ⟨S_, .f32⟩
  | 13 => ⟨S1x16384x8, .f32⟩
  | 14 => ⟨S1x16384x8, .f32⟩
  | 15 => ⟨S1x16384x8, .f32⟩
  | 16 => ⟨S1x16384x8, .f32⟩
  | 17 => ⟨S1x16384x8, .i1⟩
  | 18 => ⟨S1x16384x8, .f32⟩
  | 19 => ⟨S1x16384x8, .f32⟩
  | 20 => ⟨S1x16384x8, .f32⟩
  | 21 => ⟨S1x16384x8, .f32⟩
  | 22 => ⟨S1x16384x8, .f32⟩
  | 23 => ⟨S1x16384x8, .f32⟩
  | 24 => ⟨S1x16384x8, .f32⟩
  | 25 => ⟨S1x16384x8, .f32⟩
  | 26 => ⟨S1x16384x8, .f32⟩
  | 27 => ⟨S1x16384x8x64, .f32⟩
  | 28 => ⟨S16384x8x64, .f32⟩
  | 29 => ⟨S64x256x512, .f32⟩
  | 30 => ⟨S_, .f32⟩
  | 31 => ⟨S64x512, .f32⟩
  | 32 => ⟨S_, .f32⟩
  | 33 => ⟨S64x512, .f32⟩
  | 34 => ⟨S64x512, .f32⟩
  | 35 => ⟨S_, .f32⟩
  | 36 => ⟨S1x16384x16x64, .f32⟩
  | 37 => ⟨S1x16384x16x64, .f32⟩
  | 38 => ⟨S16384x8x128, .f32⟩
  | 39 => ⟨S8x16384x128, .f32⟩
  | 40 => ⟨S8x16384x128, .bf16⟩
  | 41 => ⟨S16384x1024, .f32⟩
  | 42 => ⟨S16384x1024, .f32⟩
  | 43 => ⟨S16384x8, .f32⟩
  | 44 => ⟨S8x16384, .f32⟩
  | 45 => ⟨S1x16384x3072, .f32⟩
  | 46 => ⟨S1x16384x3072, .f32⟩
  | 47 => ⟨S_, .f32⟩
  | 48 => ⟨S1x16384x3072, .f32⟩
  | 49 => ⟨S1x16384x3072, .f32⟩
  | 50 => ⟨S_, .f32⟩
  | 51 => ⟨S1x16384x3072, .f32⟩
  | 52 => ⟨S1x16384x3072, .f32⟩
  | 53 => ⟨S16384x3072, .f32⟩
  | 54 => ⟨S1x16384x8x64, .f32⟩
  | 55 => ⟨S16384x8x64, .f32⟩
  | 56 => ⟨S16384x512, .f32⟩
  | 57 => ⟨S32x2x512, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_c : Ref sig .tc := ⟨.hbm, 136, rfl⟩
abbrev main_call0_v0 : Ref sig .tc := ⟨.hbm, 137, rfl⟩
abbrev main_v118 : Ref sig .tc := ⟨.hbm, 138, rfl⟩
abbrev main_call1_v0 : Ref sig .tc := ⟨.hbm, 139, rfl⟩
abbrev main_call1_call0_cst : Ref sig .tc := ⟨.hbm, 140, rfl⟩
abbrev main_call1_call0_v0 : Ref sig .tc := ⟨.hbm, 141, rfl⟩
abbrev main_call1_call0_v1 : Ref sig .tc := ⟨.hbm, 142, rfl⟩
abbrev main_call1_call0_v2 : Ref sig .tc := ⟨.hbm, 143, rfl⟩
abbrev main_call1_call0_v3 : Ref sig .tc := ⟨.hbm, 144, rfl⟩
abbrev main_call1_call0_v4 : Ref sig .tc := ⟨.hbm, 145, rfl⟩
abbrev main_call1_call0_v5 : Ref sig .tc := ⟨.hbm, 146, rfl⟩
abbrev main_call1_call0_v6 : Ref sig .tc := ⟨.hbm, 147, rfl⟩
abbrev main_call1_call0_v7 : Ref sig .tc := ⟨.hbm, 148, rfl⟩
abbrev main_call1_call0_v8 : Ref sig .tc := ⟨.hbm, 149, rfl⟩
abbrev main_call1_call0_v9 : Ref sig .tc := ⟨.hbm, 150, rfl⟩
abbrev main_call1_call0_v10 : Ref sig .tc := ⟨.hbm, 151, rfl⟩
abbrev main_call1_call0_v11 : Ref sig .tc := ⟨.hbm, 152, rfl⟩
abbrev main_call1_v1 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_11 : Ref sig .tc := ⟨.hbm, 158, rfl⟩
abbrev main_v123 : Ref sig .tc := ⟨.hbm, 159, rfl⟩
abbrev main_cst_12 : Ref sig .tc := ⟨.hbm, 160, rfl⟩
abbrev main_v124 : Ref sig .tc := ⟨.hbm, 161, rfl⟩
abbrev main_v125 : Ref sig .tc := ⟨.hbm, 162, rfl⟩
abbrev main_cst_13 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_14 : Ref sig .tc := ⟨.hbm, 175, rfl⟩
abbrev main_v137 : Ref sig .tc := ⟨.hbm, 176, rfl⟩
abbrev main_v138 : Ref sig .tc := ⟨.hbm, 177, rfl⟩
abbrev main_cst_15 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩

abbrev nD : Nat := 1
abbrev τ : Topo := Topo.v7x

variable {F : FTy → Type} [FloatOps F]
-- ==== Dense.lean ====
abbrev S1x16384x1024 : Shape := ⟨3, ![1, 16384, 1024]⟩
abbrev S1x1x1024 : Shape := ⟨3, ![1, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S16384x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DenseReferenceIdeal.lean ====
abbrev S1x16384x1024 : Shape := ⟨3, ![1, 16384, 1024]⟩
abbrev S1x1x1024 : Shape := ⟨3, ![1, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x16384 : Shape := ⟨2, ![1, 16384]⟩
abbrev S1x16384x1 : Shape := ⟨3, ![1, 16384, 1]⟩
abbrev S1x16384x2816 : Shape := ⟨3, ![1, 16384, 2816]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x2816, .f32⟩
  | .hbm, ⟨32, _⟩ => ⟨S1x16384x2816, .f32⟩
  | .hbm, ⟨33, _⟩ => ⟨S1x16384x2816, .f32⟩
  | .hbm, ⟨34, _⟩ => ⟨S_, .f32⟩
  | .hbm, ⟨35, _⟩ => ⟨S1x16384x2816, .f32⟩
  | .hbm, ⟨36, _⟩ => ⟨S1x16384x2816, .f32⟩
  | .hbm, ⟨37, _⟩ => ⟨S_, .f32⟩
  | .hbm, ⟨38, _⟩ => ⟨S1x16384x2816, .f32⟩
  | .hbm, ⟨39, _⟩ => ⟨S1x16384x2816, .f32⟩
  | .hbm, ⟨40, _⟩ => ⟨S1x16384x2816, .f32⟩
  | .hbm, ⟨41, _⟩ => ⟨S1x16384x2816, .f32⟩
  | .hbm, ⟨42, _⟩ => ⟨S1x16384x2816, .f32⟩
  | .hbm, ⟨43, _⟩ => ⟨S1x16384x1024, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Merge.lean ====
abbrev S1x16384x1024 : Shape := ⟨3, ![1, 16384, 1024]⟩
abbrev S16384x256 : Shape := ⟨2, ![16384, 256]⟩
abbrev S16384x512 : Shape := ⟨2, ![16384, 512]⟩
abbrev S16384x3072 : Shape := ⟨2, ![16384, 3072]⟩
abbrev S1x1x1024 : Shape := ⟨3, ![1, 1, 1024]⟩
abbrev S256x1024 : Shape := ⟨2, ![256, 1024]⟩
abbrev S512x1024 : Shape := ⟨2, ![512, 1024]⟩
abbrev S1024x1024 : Shape := ⟨2, ![1024, 1024]⟩
abbrev S16384x1024 : Shape := ⟨2, ![16384, 1024]⟩
abbrev S1x1024 : Shape := ⟨2, ![1, 1024]⟩
abbrev S512x256 : Shape := ⟨2, ![512, 256]⟩
abbrev S512x512 : Shape := ⟨2, ![512, 512]⟩
abbrev S512x3072 : Shape := ⟨2, ![512, 3072]⟩

abbrev nBuf : Space → Nat
  | .hbm => 17
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S16384x3072, .f32⟩
  | .hbm, ⟨5, _⟩ => ⟨S1x1x1024, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S256x1024, .bf16⟩
  | .hbm, ⟨11, _⟩ => ⟨S256x1024, .bf16⟩
  | .hbm, ⟨12, _⟩ => ⟨S512x1024, .bf16⟩
  | .hbm, ⟨13, _⟩ => ⟨S1024x1024, .bf16⟩
  | .hbm, ⟨14, _⟩ => ⟨S16384x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S256x1024, .bf16⟩
  | .local _ .vmem, ⟨11, _⟩ => ⟨S256x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S1x16384x1024 : Shape := ⟨3, ![1, 16384, 1024]⟩
abbrev S16384x256 : Shape := ⟨2, ![16384, 256]⟩
abbrev S16384x512 : Shape := ⟨2, ![16384, 512]⟩
abbrev S16384x3072 : Shape := ⟨2, ![16384, 3072]⟩
abbrev S1x1x1024 : Shape := ⟨3, ![1, 1, 1024]⟩
abbrev S256x1024 : Shape := ⟨2, ![256, 1024]⟩
abbrev S512x1024 : Shape := ⟨2, ![512, 1024]⟩
abbrev S1024x1024 : Shape := ⟨2, ![1024, 1024]⟩
abbrev S16384x3x1024 : Shape := ⟨3, ![16384, 3, 1024]⟩
abbrev S16384x1x1024 : Shape := ⟨3, ![16384, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S16384x3072, .f32⟩
  | .hbm, ⟨5, _⟩ => ⟨S1x1x1024, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S16384x256, .f32⟩
  | .hbm, ⟨11, _⟩ => ⟨S16384x256, .f32⟩
  | .hbm, ⟨12, _⟩ => ⟨S16384x512, .f32⟩
  | .hbm, ⟨13, _⟩ => ⟨S16384x3x1024, .f32⟩
  | .hbm, ⟨14, _⟩ => ⟨S16384x1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Top2.lean ====
/- The two greatest of a row, taken two ways: by rounds of "the greatest value, then the lowest position that holds it, then that position struck
   out", as the kernel does over 128 lanes of which only the first eight are experts; and by a stable descending sort cut to two, as a top-k does.
   Both pick the same positions, ties going to the lower one. -/
module

public import Idealize.ShloMosaic.Lib.SortFacts
public import Idealize.ShloMosaic.Lib.SortPrefix
public import Idealize.ShloMosaic.Lib.WordArith
public import Idealize.ShloMosaic.PureOps.Ideal
public import Idealize.ShloMosaic.PureOps.Reduce

@[expose] public section

noncomputable section

namespace Cert.Top2

open Idealize.ShloMosaic

/-- `a` is the lowest position that holds the greatest value of `f`. -/
structure First {n : ℕ} (f : Fin n → EReal) (a : Fin n) : Prop where
  top : ∀ j, f j ≤ f a
  lt : ∀ j, j < a → f j < f a

/-- Every row of at least one lane has such a position. -/
theorem exists_first {n : ℕ} (f : Fin (n + 1) → EReal) : ∃ a, First f a := by
  obtain ⟨m, -, hm⟩ := Finset.exists_max_image (Finset.univ : Finset (Fin (n + 1))) f ⟨0, Finset.mem_univ _⟩
  have hne : (Finset.univ.filter fun j => f j = f m).Nonempty := ⟨m, by simp⟩
  have hmem := Finset.min'_mem _ hne
  have ha : f ((Finset.univ.filter fun j => f j = f m).min' hne) = f m := (Finset.mem_filter.mp hmem).2
  refine ⟨(Finset.univ.filter fun j => f j = f m).min' hne, fun j => ?_, fun j hj => ?_⟩
  · rw [ha]; exact hm j (Finset.mem_univ _)
  · rw [ha]
    refine lt_of_le_of_ne (hm j (Finset.mem_univ _)) fun e => ?_
    exact absurd (Finset.min'_le _ j (by simp [e])) (not_le.mpr hj)

/-- Folding `max` from the bottom over a row reads the value at such a position. -/
theorem First.fold_max {n : ℕ} {f : Fin n → EReal} {a : Fin n} (h : First f a) : Finset.fold max ⊥ f Finset.univ = f a := by
  refine le_antisymm (Finset.fold_max_le _ |>.mpr ⟨bot_le, fun j _ => h.top j⟩) ?_
  exact (Finset.le_fold_max _).mpr (Or.inr ⟨a, Finset.mem_univ _, le_rfl⟩)

/-- A fold of the signed minimum over words below 2³¹ is below every one of them and is one of them (or the start). -/
theorem fold_minsi {ι : Type} (g : ι → BitVec 32) (w : BitVec 32) (hw : w.toNat < 2 ^ 31) (hg : ∀ j, (g j).toNat < 2 ^ 31) (s : Finset ι) :
    (Finset.fold IntOp.minsi w g s).toNat < 2 ^ 31 ∧ (∀ j ∈ s, (Finset.fold IntOp.minsi w g s).toNat ≤ (g j).toNat)
      ∧ (Finset.fold IntOp.minsi w g s).toNat ≤ w.toNat
      ∧ ((Finset.fold IntOp.minsi w g s).toNat = w.toNat ∨ ∃ j ∈ s, (Finset.fold IntOp.minsi w g s).toNat = (g j).toNat) := by
  classical
  induction s using Finset.induction_on with
  | empty => exact ⟨by simpa using hw, by simp, by simp, by simp⟩
  | insert a s ha ih =>
    obtain ⟨h0, h1, h2, h3⟩ := ih
    rw [Finset.fold_insert ha]
    have e := WordArith.toNat_minsi_of_lt (g a) (Finset.fold IntOp.minsi w g s) (hg a) h0
    rw [e]
    refine ⟨lt_of_le_of_lt (min_le_right _ _) h0, fun j hj => ?_, (min_le_right _ _).trans h2, ?_⟩
    · rcases Finset.mem_insert.mp hj with rfl | hj
      · exact min_le_left _ _
      · exact (min_le_right _ _).trans (h1 j hj)
    · rcases le_total (g a).toNat (Finset.fold IntOp.minsi w g s).toNat with h | h
      · rw [min_eq_left h]; exact Or.inr ⟨a, Finset.mem_insert_self _ _, rfl⟩
      · rw [min_eq_right h]
        rcases h3 with h3 | ⟨j, hj, h3⟩
        · exact Or.inl h3
        · exact Or.inr ⟨j, Finset.mem_insert_of_mem hj, h3⟩

/-- The signed minimum over the lanes of "the lane's number where it holds the greatest value, 128 elsewhere" is the lowest such lane's number. -/
theorem First.fold_index {f : Fin 128 → EReal} {a : Fin 128} (h : First f a) :
    Finset.fold IntOp.minsi 2147483647#32 (fun j : Fin 128 => if f j = f a then BitVec.ofNat 32 ↑j else 128#32) Finset.univ
      = BitVec.ofNat 32 ↑a := by
  have hj : ∀ j : Fin 128, (BitVec.ofNat 32 (j : ℕ)).toNat = (j : ℕ) := fun j => by
    rw [BitVec.toNat_ofNat]; exact Nat.mod_eq_of_lt (by have := j.isLt; omega)
  have h128 : (128#32).toNat = 128 := rfl
  obtain ⟨-, h1, -, h3⟩ := fold_minsi (fun j : Fin 128 => if f j = f a then BitVec.ofNat 32 (j : ℕ) else 128#32) 2147483647#32 (by decide)
    (fun j => by
      by_cases e : f j = f a
      · simp only [if_pos e, hj]; have := j.isLt; omega
      · simp only [if_neg e]; decide) Finset.univ
  have ha := h1 a (Finset.mem_univ _)
  simp only [if_true, hj] at ha
  apply BitVec.eq_of_toNat_eq
  rw [hj]
  refine le_antisymm ha ?_
  rcases h3 with h3 | ⟨j, -, h3⟩
  · rw [h3]; have := a.isLt; have : (2147483647#32).toNat = 2147483647 := rfl; omega
  · rw [h3]
    by_cases e : f j = f a
    · simp only [if_pos e, hj]
      by_contra hlt
      exact absurd e (h.lt j (by simpa using hlt)).ne
    · simp only [if_neg e, h128]; exact a.isLt.le

/-- The row with one position struck out: there it holds the bottom. -/
def strike {n : ℕ} (f : Fin n → EReal) (a : Fin n) : Fin n → EReal := fun j => if j = a then ⊥ else f j

/-- The first eight lanes hold `l`, the others the bottom. -/
def lanes (l : Fin 8 → EReal) : Fin 128 → EReal := fun j => if h : (j : ℕ) < 8 then l ⟨j, h⟩ else ⊥

/-- The lane that carries expert `e`. -/
def lane (e : Fin 8) : Fin 128 := ⟨e, by omega⟩

theorem lanes_lane (l : Fin 8 → EReal) (e : Fin 8) : lanes l (lane e) = l e := by
  unfold lanes lane; rw [dif_pos (by simp)]

/-- A row whose greatest value is above the bottom has it first at an expert's lane, the lowest expert that holds it. -/
theorem first_lanes {l : Fin 8 → EReal} {e : Fin 8} (h : First l e) (hb : ⊥ < l e) : First (lanes l) (lane e) := by
  refine ⟨fun j => ?_, fun j hj => ?_⟩ <;> rw [lanes_lane]
  · unfold lanes; split
    · exact h.top _
    · exact bot_le
  · unfold lanes; split
    · exact h.lt _ hj
    · exact hb

theorem strike_lanes (l : Fin 8 → EReal) (e : Fin 8) : strike (lanes l) (lane e) = lanes (strike l e) := by
  funext j
  unfold strike lanes lane
  by_cases h : (j : ℕ) < 8
  · simp only [dif_pos h, Fin.ext_iff]
  · rw [dif_neg h, dif_neg h]; exact ite_self _

/-- A stable sort of a list in increasing order is the sort by the comparison refined by the positions. -/
theorem stableSort_refine {n : ℕ} (B R : Fin n → Fin n → Bool) (h : ∀ a b, a < b → B b a = R b a) (L : List (Fin n))
    (hL : L.Pairwise (· < ·)) : stableSort B L = stableSort R L := by
  induction L with
  | nil => rfl
  | cons a L ih =>
    rw [List.pairwise_cons] at hL
    unfold stableSort
    rw [ih hL.2]
    exact insertBefore_congr B R a _ fun b hb => h a b (hL.1 b ((perm_stableSort R L).mem_iff.mp hb))

theorem sortedFrom_refine {n : ℕ} (B R : Fin n → Fin n → Bool) (h : ∀ a b, a < b → B b a = R b a) : sortedFrom B = sortedFrom R := by
  funext k
  unfold sortedFrom
  rw [List.get_of_eq (show sortPositions n B = sortPositions n R from stableSort_refine B R h _ (List.pairwise_lt_finRange n))]
  rfl

/-- A position with no greater value, and no lower among equal values, does not come before. -/
theorem not_before {n : ℕ} (x y : EReal) (p q : Fin n) (h : x ≤ y) (he : x = y → ¬ p < q) :
    (decide (y < x) || (decide (x = y) && decide (p < q))) = false := by
  simp only [Bool.or_eq_false_iff, decide_eq_false_iff_not, not_lt, Bool.and_eq_false_iff]
  refine ⟨h, ?_⟩
  by_cases e : x = y
  · exact Or.inr (not_lt.mp (he e))
  · exact Or.inl e

/-- The two positions picked: the lowest that holds the greatest value, and the lowest other one that holds the greatest of what is left. -/
structure Picks {n : ℕ} (l : Fin n → EReal) (a b : Fin n) : Prop where
  fst : First l a
  ne : b ≠ a
  snd : ∀ j, j ≠ a → l j ≤ l b
  lt : ∀ j, j < b → j ≠ a → l j < l b

/-- The stable descending sort puts the two picked positions first. -/
theorem Picks.sortedFrom {l : Fin 8 → EReal} {a b : Fin 8} (h : Picks l a b) (i : Fin 2) :
    sortedFrom (fun k k' => decide (l k' < l k)) (i.castLE (by decide)) = (![a, b] : Fin 2 → Fin 8) i := by
  have hR := StrictTotalBefore.of_key_then_position (fun x y : EReal => decide (y < x)) l (fun x => by simp)
    (fun x y z hxy hyz => by simp only [decide_eq_true_eq] at *; exact hyz.trans hxy)
    (fun x y => by simp only [decide_eq_true_eq]; rcases lt_trichotomy x y with h | h | h <;> simp [h])
  rw [sortedFrom_refine (fun k k' : Fin 8 => decide (l k' < l k)) _ (fun p q hpq => ?_)]
  · refine hR.sortedFrom_eq_of_prefix (by decide) ![a, b] (fun i j hij => ?_) (fun i j hij => ?_) (fun i p hp => ?_) i
    · fin_cases i <;> fin_cases j <;> simp_all [h.ne, h.ne.symm]
    · have hi : i = 0 ∧ j = 1 := by revert i j; decide
      obtain ⟨rfl, rfl⟩ := hi
      refine not_before (l b) (l a) b a (h.fst.top b) fun e hlt => absurd e (h.fst.lt b hlt).ne
    · have hpa : p ≠ a := fun e => hp 0 (by simp [e])
      have hpb : p ≠ b := fun e => hp 1 (by simp [e])
      fin_cases i
      · exact not_before (l p) (l a) p a (h.fst.top p) fun e hlt => absurd e (h.fst.lt p hlt).ne
      · exact not_before (l p) (l b) p b (h.snd p hpa) fun e hlt => absurd e (h.lt p hlt hpa).ne
  · have : ¬ q < p := not_lt.mpr hpq.le
    simp [this]

theorem succ_ne (a : Fin 8) : a + 1 ≠ a := by revert a; decide

/-- Two rounds on the row: what the second round finds after the first one's position is struck out are the two picks. -/
theorem picks_of_rounds {l : Fin 8 → EReal} (hl : ∀ j, ⊥ < l j) {a b : Fin 8} (ha : First l a) (hb : First (strike l a) b) :
    Picks l a b ∧ strike l a b = l b := by
  have hne : b ≠ a := fun e => by
    obtain ⟨j, hj⟩ : ∃ j : Fin 8, j ≠ a := ⟨a + 1, succ_ne a⟩
    have := hb.top j
    unfold strike at this
    rw [if_neg hj, if_pos e, le_bot_iff] at this
    exact absurd (hl j) (by rw [this]; exact lt_irrefl _)
  have hv : strike l a b = l b := if_neg hne
  refine ⟨⟨ha, hne, fun j hj => ?_, fun j hj hja => ?_⟩, hv⟩
  · have := hb.top j
    rwa [hv, show strike l a j = l j from if_neg hj] at this
  · have := hb.lt j hj
    rwa [hv, show strike l a j = l j from if_neg hja] at this

/-- The two picks of a row: the lowest position of the greatest value, and the lowest of the greatest among the others. -/
def pickA (l : Fin 8 → EReal) : Fin 8 := (exists_first l).choose
def pickB (l : Fin 8 → EReal) : Fin 8 := (exists_first (strike l (pickA l))).choose

theorem pickA_first (l : Fin 8 → EReal) : First l (pickA l) := (exists_first l).choose_spec
theorem pickB_first (l : Fin 8 → EReal) : First (strike l (pickA l)) (pickB l) := (exists_first (strike l (pickA l))).choose_spec

/-- On a row above the bottom they are the two picks. -/
theorem picks (l : Fin 8 → EReal) (hl : ∀ j, ⊥ < l j) : Picks l (pickA l) (pickB l) ∧ strike l (pickA l) (pickB l) = l (pickB l) :=
  picks_of_rounds hl (pickA_first l) (pickB_first l)

end Cert.Top2

end
-- ==== Proof.Moe.lean ====
/- The mixture of experts of one token, over the extended reals and over no program: the hidden row, the router's logits, the two
   experts it picks and the weight of each, an expert's output, and the row that leaves the layer. With what a program needs to
   rearrange them: the hidden row and the logits are real numbers, the weights are real and not negative, and a weight goes through
   the sum over an expert's inner dimension, in chunks or at once. -/
module

public import proofs.«01_k».proof.Proof.Top2
public import Idealize.ShloMosaic.PureOps.Ideal
public import Idealize.ShloMosaic.Lib.Pointwise
public import Idealize.ShloMosaic.Lib.Pipeline.ValueKit

@[expose] public section

noncomputable section

namespace Cert.Moe

open Idealize.ShloMosaic Cert.Top2

/-! ## The layer -/

/-- The row length the mean divides by, and what is added under the root. -/
def width : EReal := Ideal.ofBits .f32 1149239296#32
def eps : EReal := Ideal.ofBits .f32 897988541#32

/-- A row over its root mean square, times a gain. -/
def norm (x g : Fin 1024 → EReal) (k : Fin 1024) : EReal :=
  x k * Ideal.rsqrt (Ideal.div (∑ j, x j * x j) width + eps) * g k

/-- The normed row, scaled and shifted. -/
def hidden (x g sc sh : Fin 1024 → EReal) (k : Fin 1024) : EReal := norm x g k * (1 + sc k) + sh k

/-- The router's logit of each expert. -/
def logit (h : Fin 1024 → EReal) (rw : Fin 1024 → Fin 8 → EReal) (rb : Fin 8 → EReal) (e : Fin 8) : EReal := ∑ k, h k * rw k e + rb e

/-- The weight of expert `e`: the softmax of the two greatest logits at the two picked experts, zero at the others. -/
def weight (l : Fin 8 → EReal) (e : Fin 8) : EReal :=
  (if pickA l = e then Ideal.div 1 (1 + Ideal.exp (l (pickB l) - l (pickA l))) else 0)
    + (if pickB l = e then Ideal.div (Ideal.exp (l (pickB l) - l (pickA l))) (1 + Ideal.exp (l (pickB l) - l (pickA l))) else 0)

/-- Element `f` of an expert's inner row, times the row of the last projection it meets. -/
def inner (h : Fin 1024 → EReal) (wg wu : Fin 1024 → Fin 3584 → EReal) (wd : Fin 3584 → Fin 1024 → EReal) (l : Fin 1024) (f : Fin 3584) : EReal :=
  (∑ k, h k * wg k f) * Ideal.logistic (∑ k, h k * wg k f) * (∑ k, h k * wu k f) * wd f l

/-- An expert's output. -/
def expert (h : Fin 1024 → EReal) (wg wu : Fin 1024 → Fin 3584 → EReal) (wd : Fin 3584 → Fin 1024 → EReal) (l : Fin 1024) : EReal :=
  ∑ f, inner h wg wu wd l f

/-! ## Real numbers among the extended reals -/

/-- `x` is a real number. -/
def IsReal (x : EReal) : Prop := ∃ r : ℝ, x = (r : EReal)

theorem isReal_of_ne {x : EReal} (h : x ≠ ⊤) (h' : x ≠ ⊥) : IsReal x := ⟨x.toReal, (EReal.coe_toReal h h').symm⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem IsReal.add {x y : EReal} (h : IsReal x) (h' : IsReal y) : IsReal (x + y) := by
  obtain ⟨r, rfl⟩ := h; obtain ⟨s, rfl⟩ := h'; exact ⟨r + s, (EReal.coe_add r s).symm⟩
theorem IsReal.mul {x y : EReal} (h : IsReal x) (h' : IsReal y) : IsReal (x * y) := by
  obtain ⟨r, rfl⟩ := h; obtain ⟨s, rfl⟩ := h'; exact ⟨r * s, (EReal.coe_mul r s).symm⟩
theorem IsReal.sub_self {x : EReal} (h : IsReal x) : x - x = 0 := by
  obtain ⟨r, rfl⟩ := h; rw [← EReal.coe_sub, _root_.sub_self, EReal.coe_zero]
theorem isReal_one : IsReal 1 := ⟨1, rfl⟩
theorem isReal_zero : IsReal 0 := ⟨0, rfl⟩
theorem isReal_sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih

/-- The square of any extended real is not negative. -/
theorem mul_self_nonneg' (x : EReal) : 0 ≤ x * x := by
  induction x with
  | bot => simp
  | top => simp
  | coe r => rw [← EReal.coe_mul]; exact EReal.coe_nonneg.mpr (mul_self_nonneg r)

theorem width_eq : width = ((1024 : ℝ) : EReal) := by
  simp [width, Ideal.ofBits, Ideal.ieee, -EReal.coe_mul]; norm_num

theorem eps_pos : ∃ r : ℝ, 0 < r ∧ eps = (r : EReal) := by
  refine ⟨8796093 / 2 ^ 43, by positivity, ?_⟩
  simp [eps, Ideal.ofBits, Ideal.ieee, -EReal.coe_mul]; norm_num

/-- The factor of a row: either the row is real and the factor is, or the factor is zero. In both cases the product is real: an infinite
    element makes the mean infinite, and one over its root is zero. -/
theorem isReal_norm (x g : Fin 1024 → EReal) (hg : ∀ k, IsReal (g k)) (k : Fin 1024) : IsReal (norm x g k) := by
  refine IsReal.mul ?_ (hg k)
  obtain ⟨ε, hε, he⟩ := eps_pos
  by_cases hx : ∀ j, IsReal (x j)
  · obtain ⟨S, hS⟩ := isReal_sum Finset.univ (fun j => x j * x j) fun j => (hx j).mul (hx j)
    have h0 : 0 ≤ S := by
      rw [← EReal.coe_nonneg, ← hS]; exact Finset.sum_nonneg fun j _ => mul_self_nonneg' (x j)
    refine (hx k).mul ?_
    rw [hS, width_eq, Ideal.div_coe (by norm_num), he, ← EReal.coe_mul, ← EReal.coe_add, Ideal.rsqrt_coe,
      if_neg (not_lt.mpr (by positivity)), if_neg (ne_of_gt (by positivity))]
    exact ⟨_, rfl⟩
  · obtain ⟨j, hj⟩ := not_forall.mp hx
    have hjj : x j * x j = ⊤ := by
      generalize x j = y at hj
      induction y with
      | bot => simp
      | top => simp
      | coe r => exact absurd ⟨r, rfl⟩ hj
    have hS : ∑ j, x j * x j = ⊤ := by
      refine top_le_iff.mp ?_
      rw [← hjj]
      exact Finset.single_le_sum (f := fun j => x j * x j) (fun i _ => mul_self_nonneg' (x i)) (Finset.mem_univ j)
    rw [hS, width_eq, Ideal.div_coe (by norm_num), EReal.top_mul_coe_of_pos (by norm_num), he, EReal.top_add_coe, Ideal.rsqrt_top, mul_zero]
    exact isReal_zero

theorem isReal_hidden (x g sc sh : Fin 1024 → EReal) (hg : ∀ k, IsReal (g k)) (hc : ∀ k, IsReal (sc k)) (hs : ∀ k, IsReal (sh k))
    (k : Fin 1024) : IsReal (hidden x g sc sh k) := ((isReal_norm x g hg k).mul (isReal_one.add (hc k))).add (hs k)

theorem isReal_logit (h : Fin 1024 → EReal) (rw : Fin 1024 → Fin 8 → EReal) (rb : Fin 8 → EReal) (hh : ∀ k, IsReal (h k))
    (hw : ∀ k e, IsReal (rw k e)) (hb : ∀ e, IsReal (rb e)) (e : Fin 8) : IsReal (logit h rw rb e) :=
  (isReal_sum _ _ fun k => (hh k).mul (hw k e)).add (hb e)

/-! ## The weights -/

/-- The softmax of two real logits: both shares are real and not negative. -/
theorem share (a b : EReal) (ha : IsReal a) (hb : IsReal b) : ∃ r s : ℝ, 0 ≤ r ∧ 0 ≤ s ∧ Ideal.div 1 (1 + Ideal.exp (b - a)) = (r : EReal)
    ∧ Ideal.div (Ideal.exp (b - a)) (1 + Ideal.exp (b - a)) = (s : EReal) := by
  obtain ⟨a, rfl⟩ := ha
  obtain ⟨b, rfl⟩ := hb
  have hp := Real.exp_pos (b - a)
  have hne : (1 : ℝ) + Real.exp (b - a) ≠ 0 := by positivity
  refine ⟨1 * (1 / (1 + Real.exp (b - a))), Real.exp (b - a) * (1 / (1 + Real.exp (b - a))), by positivity, by positivity, ?_, ?_⟩
  all_goals
    rw [← EReal.coe_sub, Ideal.exp_coe, ← EReal.coe_one, ← EReal.coe_add, Ideal.div_coe hne, ← EReal.coe_mul]

theorem weight_real (l : Fin 8 → EReal) (hl : ∀ e, IsReal (l e)) (e : Fin 8) : 0 ≤ weight l e ∧ weight l e ≠ ⊤ := by
  obtain ⟨r, s, hr, hs, h1, h2⟩ := share (l (pickA l)) (l (pickB l)) (hl _) (hl _)
  unfold weight
  rw [h1, h2]
  split <;> split <;> (try simp only [add_zero, zero_add, ← EReal.coe_add])
  all_goals first
    | exact ⟨EReal.coe_nonneg.mpr (by positivity), EReal.coe_ne_top _⟩
    | exact ⟨le_rfl, EReal.zero_ne_top⟩

/-- A factor that is real and not negative goes through a sum. -/
theorem mul_sum {ι : Type} (s : Finset ι) (w : EReal) (h0 : 0 ≤ w) (ht : w ≠ ⊤) (f : ι → EReal) : w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 ht, ih]

/-- The fifty-six weighted chunks, expert by expert and chunk by chunk, are the eight weighted experts. -/
theorem sum_chunks (w : Fin 8 → EReal) (hw : ∀ e, 0 ≤ w e ∧ w e ≠ ⊤) (y : Fin 8 → Fin 3584 → EReal) (g : ℕ → EReal)
    (hg : ∀ (e : Fin 8) (q : Fin 7), g (e.val * 7 + q.val) = w e * ∑ f : Fin 512, y e ⟨q.val * 512 + f.val, by omega⟩) :
    ∑ s ∈ Finset.range 56, g s = ∑ e, w e * ∑ f, y e f := by
  have hy : ∀ e, ∑ q : Fin 7, ∑ f : Fin 512, y e ⟨q.val * 512 + f.val, by omega⟩ = ∑ f, y e f := fun e =>
    Fin.sum_mul_add_congr (f := y e) fun q f hl => rfl
  rw [show (56 : ℕ) = 8 * 7 from rfl, ← Fin.sum_univ_eq_sum_range,
    ← Fin.sum_mul_add_congr (F := fun (e : Fin 8) (q : Fin 7) => g (e.val * 7 + q.val)) (f := fun s : Fin (8 * 7) => g s) fun e q hl => rfl]
  refine Finset.sum_congr rfl fun e _ => ?_
  rw [← hy, mul_sum _ _ (hw e).1 (hw e).2]
  exact Finset.sum_congr rfl fun q _ => hg e q

/-- A row of the layer's output: the residual over the experts' outputs, each times its weight, normed. -/
def out (x h g2 : Fin 1024 → EReal) (l : Fin 8 → EReal) (wg wu : Fin 8 → Fin 1024 → Fin 3584 → EReal) (wd : Fin 8 → Fin 3584 → Fin 1024 → EReal)
    (fg : Fin 1024 → EReal) : Fin 1024 → EReal :=
  norm (fun k => x k + g2 k * ∑ e, weight l e * expert h (wg e) (wu e) (wd e) k) fg

end Cert.Moe

end
-- ==== Proof.Finite.lean ====
/- What the precondition says of the arguments the router reads: every element is a real number. -/
module

public import proofs.«01_k».proof.Defs
public import proofs.«01_k».proof.Proof.Gen.Pre_finite
public import proofs.«01_k».proof.Proof.Moe
public import Idealize.ShloMosaic.Lib.Pointwise
public import Idealize.ShloMosaic.Lib.ReduceAll

@[expose] public section

set_option maxRecDepth 16384

noncomputable section

namespace Cert.Pre_finite

open Idealize.ShloMosaic Facts

theorem infinity : Ideal.ofBits .f32 0x7F800000#32 = ⊤ := by simp [Ideal.ofBits, Ideal.ieee]

/-- An element whose absolute value is below infinity is a real number. -/
theorem isReal_of_abs (x : EReal) (h : FloatOps.cmpf (F := Ideal) (φ := .f32) .olt (FloatOps.hostAbsf (F := Ideal) (φ := .f32) x) (Ideal.ofBits .f32 0x7F800000#32) = 1#1) :
    Moe.IsReal x := by
  rw [infinity] at h
  have h' : max x (-x) < ⊤ := by
    by_contra hn
    have : BitVec.ofBool (decide (max x (-x) < ⊤)) = 1#1 := h
    simp [hn] at this
  refine Moe.isReal_of_ne (fun e => ?_) (fun e => ?_)
  · subst e; simp at h'
  · subst e; simp at h'

/-- Where the precondition holds, the modulation, the norm's gain, the router's matrix and its bias are real numbers throughout. -/
theorem fn_isReal (a0 : FVec Ideal S1x16384x1024 .f32) (a1 a2 a3 : FVec Ideal S1x1x1024 .f32) (a4 : FVec Ideal S1024 .f32) (a5 : FVec Ideal S1024x8 .f32)
    (a6 : FVec Ideal S8 .f32) (a7 a8 : FVec Ideal S8x1024x3584 .f32) (a9 : FVec Ideal S8x3584x1024 .f32) (a10 : FVec Ideal S1024 .f32)
    (j : S_.Idx) (h : fn (F := Ideal) a0 a1 a2 a3 a4 a5 a6 a7 a8 a9 a10 j = 1#1) :
    (∀ i, Moe.IsReal (a1 i)) ∧ (∀ i, Moe.IsReal (a2 i)) ∧ (∀ i, Moe.IsReal (a4 i)) ∧ (∀ i, Moe.IsReal (a5 i)) ∧ ∀ i, Moe.IsReal (a6 i) := by
  have one : ∀ x y : BitVec 1, IntOp.andi x y = 1#1 → x = 1#1 ∧ y = 1#1 := by decide
  unfold fn fn_part1 at h
  obtain ⟨h, h6⟩ := one _ _ h
  obtain ⟨h, h5⟩ := one _ _ h
  obtain ⟨h, h4⟩ := one _ _ h
  obtain ⟨h1, h2⟩ := one _ _ h
  haveI : Subsingleton S_.Idx := ⟨fun a b => funext fun i => i.elim0⟩
  refine ⟨fun i => ?_, fun i => ?_, fun i => ?_, fun i => ?_, fun i => ?_⟩
  · exact isReal_of_abs _ (Host.reduce_andi_all _ _ _ _ j h1 i)
  · exact isReal_of_abs _ (Host.reduce_andi_all _ _ _ _ j h2 i)
  · exact isReal_of_abs _ (Host.reduce_andi_all _ _ _ _ j h4 i)
  · exact isReal_of_abs _ (Host.reduce_andi_all _ _ _ _ j h5 i)
  · exact isReal_of_abs _ (Host.reduce_andi_all _ _ _ _ j h6 i)

end Cert.Pre_finite

end
-- ==== Proof.Point.lean ====
/- What one point of the grid leaves, from what it found: the hidden block, the gates of the block's rows, the accumulator and the output block.
   The points of one row block are the 56 pairs of an expert and a chunk of its inner dimension. The first of them fills the hidden block and the
   gates and starts the accumulator; every point adds its gated chunk; the last writes the output block. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal

open Idealize.ShloMosaic Idealize.ShloMosaic.TcCoe Idealize.SL.Sem
open Cert.KernelIdeal.Gen

variable (m : (ℓ : Loc nD τ sig) → Buf (Elt Ideal) ℓ) (c : Dev nD)

/-- The gate's slab that a point reads is its expert's. -/
theorem gate_offset : ∀ t : Fin grid0.N, k0_off1 (grid0.coords t) = ![t.val % 56 / 7, 0, 0] := by decide +kernel

/-- A first store does not show where the later ones cover. (A list of stores has the last made first.) -/
theorem canon_dropLast {Val : EltTy → Type} [∀ e, Nonempty (Val e)] {S : Shape} {e : EltTy} (L : List (View.Piece Val S e)) (y : S.Idx)
    (hc : ∃ p ∈ L.dropLast, y ∈ p.1.set) : View.canon L y = View.canon L.dropLast y := by
  induction L with
  | nil => rfl
  | cons p L ih =>
    cases L with
    | nil => simp at hc
    | cons q L =>
      simp only [List.dropLast] at hc ⊢
      by_cases hm : y ∈ p.1.set
      · obtain ⟨x, rfl⟩ := p.1.exists_idx_of_mem hm
        exact (View.canon_cons_emb p.1 p.2 _ x).trans (View.canon_cons_emb p.1 p.2 _ x).symm
      · rw [View.canon_cons_of_not_mem _ _ hm, View.canon_cons_of_not_mem _ _ hm]
        refine ih ?_
        obtain ⟨a, ha, hy⟩ := hc
        rcases List.mem_cons.mp ha with rfl | ha
        · exact absurd hy hm
        · exact ⟨a, ha, hy⟩

/-- What a point hands on: the output block, the hidden block, the gates, the accumulator. -/
abbrev Carried := Vec Ideal S512x1024 .f32 × Vec Ideal S512x1024 .bf16 × Vec Ideal S8x512x128 .f32 × Vec Ideal S512x1024 .f32

/-- `p` is what the point before `t` left. -/
def Before (t : Fin cfg0.N) (p : Carried) : Prop := outsAt0 m c (t.val - 1) (Nat.lt_of_le_of_lt (Nat.sub_le _ _) t.isLt) = p

/-- After the first point of a row block, a point leaves the hidden block and the gates as it found them. -/
theorem later_kept (t : Fin cfg0.N) (h0 : ¬t.val % 56 = 0) (p : Carried) (hp : Before m c t p) :
    (outsAt0 m c t.val t.isLt).2.1 = p.2.1 ∧ (outsAt0 m c t.val t.isLt).2.2.1 = p.2.2.1 := by
  unfold Before at hp
  by_cases hc : t.val % 56 = 55
  · rw [outsAt0_C m c t h0 hc, hp]
    exact ⟨rfl, rfl⟩
  · rw [outsAt0_B m c t h0 hc, hp]
    exact ⟨rfl, rfl⟩

/-- It adds to the accumulator its chunk of its expert's output, each row times that expert's gate. -/
theorem later_acc (t : Fin cfg0.N) (h0 : ¬t.val % 56 = 0) (p : Carried) (hp : Before m c t p) (r : Fin 512) (l : Fin 1024) :
    (outsAt0 m c t.val t.isLt).2.2.2 (ix2 r l) = (show EReal from p.2.2.2 (ix2 r l))
      + (show EReal from p.2.2.1 (ix3 (⟨t.val % 56 / 7, by omega⟩ : Fin 8) r (⟨l % 128, by omega⟩ : Fin 128)))
        * k0_pay36 (F := Ideal) p.2.1 (iblk m c 7 t) (iblk m c 8 t) (iblk m c 9 t) (ix2 r l) := by
  have e0 : k0_off1 (grid0.coords t) 0 = t.val % 56 / 7 := congrFun (gate_offset t) 0
  have e1 : k0_off1 (grid0.coords t) 1 = 0 := congrFun (gate_offset t) 1
  have e2 : k0_off1 (grid0.coords t) 2 = 0 := congrFun (gate_offset t) 2
  unfold Before at hp
  by_cases hc : t.val % 56 = 55
  all_goals
    first | rw [outsAt0_C m c t h0 hc, hp] | rw [outsAt0_B m c t h0 hc, hp]
    frame_out
    canon_tiles x h
    all_goals
      idx_vars x
      simp only [read_unread_whole]
      open_payloads
      pointwise
      simp only [e0, e1, e2]
      refine Ideal.add_congr (congrArg p.2.2.2 ?_) (Ideal.mul_congr (congrArg p.2.2.1 ?_) (congrArg (k0_pay36 (F := Ideal) p.2.1 _ _ _) ?_))
      · exact (ix2_inj ..).2 ⟨Fin.ext h0.symm, Fin.ext h1.symm⟩
      · exact (ix3_inj ..).2 ⟨rfl, Fin.ext (by simp only []; omega), Fin.ext (by simp only []; omega)⟩
      · exact (ix2_inj ..).2 ⟨Fin.ext h0.symm, Fin.ext h1.symm⟩

/-- The first point of a row block computes the block's hidden rows. -/
theorem first_hidden (t : Fin cfg0.N) (h0 : t.val % 56 = 0) :
    (outsAt0 m c t.val t.isLt).2.1 = k0_pay6 (F := Ideal) (iblk m c 0 t) (iblk m c 4 t) (iblk m c 2 t) (iblk m c 1 t) := by
  rw [outsAt0_A m c t h0 (by omega)]
  frame_out

/-- Of each row: the greatest logit and its lane, the greatest of the others and its lane. -/
def v1 (t : Fin cfg0.N) : FVec Ideal S512x1 .f32 :=
  k0_pay16 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)
def i1 (t : Fin cfg0.N) : IVec S512x1 32 :=
  k0_pay17 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)
def v2 (t : Fin cfg0.N) : FVec Ideal S512x1 .f32 :=
  k0_pay19 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)
def i2 (t : Fin cfg0.N) : IVec S512x1 32 :=
  k0_pay20 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)

/-- The gate of expert `e` on a row, from the row's two greatest logits and their lanes. -/
def gate (v1 v2 : EReal) (i1 i2 : BitVec 32) (e : ℕ) : EReal :=
  Scalar.select (IntOp.cmpi .eq i1 (BitVec.ofNat 32 e)) (Ideal.div 1 (1 + Ideal.exp (v2 - v1))) 0
    + Scalar.select (IntOp.cmpi .eq i2 (BitVec.ofNat 32 e)) (Ideal.div (Ideal.exp (v2 - v1)) (1 + Ideal.exp (v2 - v1))) 0

/-- The first point of a row block fills every lane of an expert's slab with the row's gate. -/
theorem first_gate (t : Fin cfg0.N) (h0 : t.val % 56 = 0) (e : Fin 8) (r : Fin 512) (l : Fin 128) :
    (outsAt0 m c t.val t.isLt).2.2.1 (ix3 e r l) = gate (v1 m c t (ix2 r 0)) (v2 m c t (ix2 r 0)) (i1 m c t (ix2 r 0)) (i2 m c t (ix2 r 0)) e := by
  rw [outsAt0_A m c t h0 (by omega)]
  frame_out
  simp only [v1, v2, i1, i2]
  canon_tiles x h
  all_goals
    idx_vars x
    simp only [k0_pay24, k0_pay25, k0_pay26, k0_pay27, k0_pay28, k0_pay29, k0_pay30, k0_pay31, k0_pay32, k0_pay33, k0_pay34, k0_pay21, k0_pay22, k0_pay23, gate]
    pointwise
    obtain rfl : r = x1 := Fin.ext h1
    rw [show e.val = _ from h0, show x0.val = 0 by omega]
    try rfl

/-- The first point of a row block starts the accumulator at its own gated chunk. -/
theorem first_acc (t : Fin cfg0.N) (h0 : t.val % 56 = 0) (r : Fin 512) (l : Fin 1024) :
    (outsAt0 m c t.val t.isLt).2.2.2 (ix2 r l)
      = (show EReal from (outsAt0 m c t.val t.isLt).2.2.1 (ix3 (⟨t.val % 56 / 7, by omega⟩ : Fin 8) r (⟨l % 128, by omega⟩ : Fin 128)))
        * k0_pay36 (F := Ideal) (outsAt0 m c t.val t.isLt).2.1 (iblk m c 7 t) (iblk m c 8 t) (iblk m c 9 t) (ix2 r l) := by
  have e0 : k0_off1 (grid0.coords t) 0 = t.val % 56 / 7 := congrFun (gate_offset t) 0
  have e1 : k0_off1 (grid0.coords t) 1 = 0 := congrFun (gate_offset t) 1
  have e2 : k0_off1 (grid0.coords t) 2 = 0 := congrFun (gate_offset t) 2
  rw [first_hidden m c t h0, outsAt0_A m c t h0 (by omega)]
  frame_open
  simp (disch := decide) only [↓ View.readCov_skip, ↓ View.readCov_cons_toLoadRect, ↓ View.readCov_fill]
  frame_out
  generalize k0_pay6 (iblk m c 0 t) (iblk m c 4 t) (iblk m c 2 t) (iblk m c 1 t) = H
  generalize (View.canon _ : Vec Ideal S8x512x128 .f32) = G
  rw [canon_dropLast _ _ (View.cover_of_tiled _ ![512, 128] (by rfl) _)]
  simp only [List.dropLast]
  canon_tiles x h
  all_goals
    idx_vars x
    open_payloads
    pointwise
    simp only [e0, e1, e2]
    refine Ideal.mul_congr (congrArg G ?_) (congrArg (k0_pay36 (F := Ideal) H _ _ _) ?_)
    · exact (ix3_inj ..).2 ⟨rfl, Fin.ext (by simp only []; omega), Fin.ext (by simp only []; omega)⟩
    · exact (ix2_inj ..).2 ⟨Fin.ext h0.symm, Fin.ext h1.symm⟩

/-- The last point of a row block writes the block of the output: the residual over the accumulator it leaves, normed. -/
theorem last_out (t : Fin cfg0.N) (h0 : t.val % 56 = 55) :
    (outsAt0 m c t.val t.isLt).1 = k0_pay4 (F := Ideal) (iblk m c 0 t) (outsAt0 m c t.val t.isLt).2.2.2 (iblk m c 3 t) (iblk m c 10 t) := by
  rw [outsAt0_C m c t (by omega) h0]
  generalize outsAt0 m c (t.val - 1) _ = p
  frame_out
  refine congrArg (fun a => k0_pay4 (F := Ideal) (iblk m c 0 t) a (iblk m c 3 t) (iblk m c 10 t)) ?_
  rw [View.readCov_eq_canon']
  funext j
  refine congrArg (View.canon _) ?_
  idx_ext

end Cert.KernelIdeal

end
-- ==== Proof.Blocks.lean ====
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.KernelIdeal

open Idealize.ShloMosaic Idealize.ShloMosaic.TcCoe Idealize.SL.Sem
open Cert.KernelIdeal.Gen

variable (m : (ℓ : Loc nD τ sig) → Buf (Elt Ideal) ℓ) (c : Dev nD)

/-! The arguments as arrays of extended reals. -/

abbrev argX : FVec Ideal S1x16384x1024 .f32 := m ((c : Thread nD τ).loc main_arg0)
abbrev argSh : FVec Ideal S1x1x1024 .f32 := m ((c : Thread nD τ).loc main_arg1)
abbrev argSc : FVec Ideal S1x1x1024 .f32 := m ((c : Thread nD τ).loc main_arg2)
abbrev argG2 : FVec Ideal S1x1x1024 .f32 := m ((c : Thread nD τ).loc main_arg3)
abbrev argNg : FVec Ideal S1024 .f32 := m ((c : Thread nD τ).loc main_arg4)
abbrev argRw : FVec Ideal S1024x8 .f32 := m ((c : Thread nD τ).loc main_arg5)
abbrev argRb : FVec Ideal S8 .f32 := m ((c : Thread nD τ).loc main_arg6)
abbrev argWg : FVec Ideal S8x1024x3584 .f32 := m ((c : Thread nD τ).loc main_arg7)
abbrev argWu : FVec Ideal S8x1024x3584 .f32 := m ((c : Thread nD τ).loc main_arg8)
abbrev argWd : FVec Ideal S8x3584x1024 .f32 := m ((c : Thread nD τ).loc main_arg9)
abbrev argFg : FVec Ideal S1024 .f32 := m ((c : Thread nD τ).loc main_arg10)

/-- The block numbers of the windows that move with the point: the row block, the expert and the chunk of the expert's
    inner dimension. -/
theorem block_moving : ∀ t : Fin cfg0.N, win0_0.index t = ![t.val / 56, 0] ∧ win0_7.index t = ![t.val % 56 / 7, 0, t.val % 7]
    ∧ win0_8.index t = ![t.val % 56 / 7, 0, t.val % 7] ∧ win0_9.index t = ![t.val % 56 / 7, t.val % 7, 0] := by decide +kernel

/-- The windows that stay on their one block. -/
theorem block_fixed : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_10.index t = ![0, 0] := by decide +kernel

theorem N_eq : cfg0.N = 1792 := N_0

/-! What the operands hold when the call starts: the arguments reshaped, padded or cast. -/

theorem V_x : V m c main_v0 = shapeCast S16384x1024 (argX m c) shapeCasts_S1x16384x1024_S16384x1024 := by
  simp only [V, List.flatten_cons, List.flatten_nil, List.cons_append, List.nil_append]
  entry_read
  rfl

theorem V_sh : V m c main_v1 = shapeCast S1x1024 (argSh m c) shapeCasts_S1x1x1024_S1x1024 := by
  simp only [V, List.flatten_cons, List.flatten_nil, List.cons_append, List.nil_append]
  entry_read
  rfl

theorem V_sc : V m c main_v2 = shapeCast S1x1024 (argSc m c) shapeCasts_S1x1x1024_S1x1024 := by
  simp only [V, List.flatten_cons, List.flatten_nil, List.cons_append, List.nil_append]
  entry_read
  rfl

theorem V_g2 : V m c main_v3 = shapeCast S1x1024 (argG2 m c) shapeCasts_S1x1x1024_S1x1024 := by
  simp only [V, List.flatten_cons, List.flatten_nil, List.cons_append, List.nil_append]
  entry_read
  rfl

theorem V_ng : V m c main_v4 = shapeCast S1x1024 (argNg m c) shapeCasts_S1024_S1x1024 := by
  simp only [V, List.flatten_cons, List.flatten_nil, List.cons_append, List.nil_append]
  entry_read
  rfl

theorem V_fg : V m c main_v5 = shapeCast S1x1024 (argFg m c) shapeCasts_S1024_S1x1024 := by
  simp only [V, List.flatten_cons, List.flatten_nil, List.cons_append, List.nil_append]
  entry_read
  rfl

theorem V_rw : V m c main_v6 = pad S1024x128 ![0, 0] ![0, 120] ![0, 0] (argRw m c) (sitofp (F := Ideal) .f32 (constantI S_ 32 0#32)) pads_S1024x8_S1024x128_000_01200 h_S_ := by
  simp only [V, List.flatten_cons, List.flatten_nil, List.cons_append, List.nil_append]
  entry_read
  rfl

theorem V_rb : V m c main_v8 = shapeCast S1x128 (pad S128 ![0] ![120] ![0] (argRb m c) (sitofp (F := Ideal) .f32 (constantI S_ 32 0#32)) pads_S8_S128_01200 h_S_) shapeCasts_S128_S1x128 := by
  simp only [V, List.flatten_cons, List.flatten_nil, List.cons_append, List.nil_append]
  entry_read
  rfl

theorem V_wg : V m c main_v9 = truncf (F := Ideal) .bf16 (argWg m c) bitsLt_bf16_f32 := by
  simp only [V, List.flatten_cons, List.flatten_nil, List.cons_append, List.nil_append]
  entry_read
  rfl

theorem V_wu : V m c main_v10 = truncf (F := Ideal) .bf16 (argWu m c) bitsLt_bf16_f32 := by
  simp only [V, List.flatten_cons, List.flatten_nil, List.cons_append, List.nil_append]
  entry_read
  rfl

theorem V_wd : V m c main_v11 = truncf (F := Ideal) .bf16 (argWd m c) bitsLt_bf16_f32 := by
  simp only [V, List.flatten_cons, List.flatten_nil, List.cons_append, List.nil_append]
  entry_read
  rfl

/-! The blocks of a point, element by element. -/

theorem blk_x (t : Fin cfg0.N) (r : Fin 512) (k : Fin 1024) (R : Fin 16384) (hR : R.val = 512 * (t.val / 56) + r.val) :
    iblk m c 0 t (ix2 r k) = argX m c (ix3 0 R k) := by
  have hi := (block_moving t).1
  blk_simp [iblk]
  rw [V_x]
  pointwise
  blk_ext [hi, hR]

theorem blk_sh (t : Fin cfg0.N) (k : Fin 1024) : iblk m c 1 t (ix2 0 k) = argSh m c (ix3 0 0 k) := by
  have hi := block_fixed t
  blk_simp [iblk]
  rw [V_sh]
  pointwise
  blk_ext [hi]

theorem blk_sc (t : Fin cfg0.N) (k : Fin 1024) : iblk m c 2 t (ix2 0 k) = argSc m c (ix3 0 0 k) := by
  have hi := block_fixed t
  blk_simp [iblk]
  rw [V_sc]
  pointwise
  blk_ext [hi]

theorem blk_g2 (t : Fin cfg0.N) (k : Fin 1024) : iblk m c 3 t (ix2 0 k) = argG2 m c (ix3 0 0 k) := by
  have hi := block_fixed t
  blk_simp [iblk]
  rw [V_g2]
  pointwise
  blk_ext [hi]

theorem blk_ng (t : Fin cfg0.N) (k : Fin 1024) : iblk m c 4 t (ix2 0 k) = argNg m c (ix1 k) := by
  have hi := block_fixed t
  blk_simp [iblk]
  rw [V_ng]
  pointwise
  blk_ext [hi]

theorem blk_fg (t : Fin cfg0.N) (k : Fin 1024) : iblk m c 10 t (ix2 0 k) = argFg m c (ix1 k) := by
  have hi := block_fixed t
  blk_simp [iblk]
  rw [V_fg]
  pointwise
  blk_ext [hi]

theorem blk_rw (t : Fin cfg0.N) (k : Fin 1024) (j : Fin 128) (e : Fin 8) (he : j.val = e.val) : iblk m c 5 t (ix2 k j) = argRw m c (ix2 k e) := by
  have hi := block_fixed t
  have hj := e.isLt
  blk_simp [iblk]
  rw [V_rw]
  pointwise
  split
  · blk_ext [hi, he]
  · rename_i hn
    refine absurd ?_ hn
    blk_simp [hi, he]
    try exact hj

theorem blk_rb (t : Fin cfg0.N) (j : Fin 128) (e : Fin 8) (he : j.val = e.val) : iblk m c 6 t (ix2 0 j) = argRb m c (ix1 e) := by
  have hi := block_fixed t
  have hj := e.isLt
  blk_simp [iblk]
  rw [V_rb]
  pointwise
  split
  · blk_ext [hi, he]
  · rename_i hn
    refine absurd ?_ hn
    blk_simp [hi, he]
    try exact hj

theorem blk_wg (t : Fin cfg0.N) (k : Fin 1024) (f : Fin 512) (e : Fin 8) (he : e.val = t.val % 56 / 7) (F : Fin 3584) (hF : F.val = t.val % 7 * 512 + f.val) :
    iblk m c 7 t (ix3 0 k f) = argWg m c (ix3 e k F) := by
  have hi := block_moving t
  blk_simp [iblk]
  rw [V_wg]
  pointwise
  blk_ext [hi, he, hF]

theorem blk_wu (t : Fin cfg0.N) (k : Fin 1024) (f : Fin 512) (e : Fin 8) (he : e.val = t.val % 56 / 7) (F : Fin 3584) (hF : F.val = t.val % 7 * 512 + f.val) :
    iblk m c 8 t (ix3 0 k f) = argWu m c (ix3 e k F) := by
  have hi := block_moving t
  blk_simp [iblk]
  rw [V_wu]
  pointwise
  blk_ext [hi, he, hF]

theorem blk_wd (t : Fin cfg0.N) (f : Fin 512) (l : Fin 1024) (e : Fin 8) (he : e.val = t.val % 56 / 7) (F : Fin 3584) (hF : F.val = t.val % 7 * 512 + f.val) :
    iblk m c 9 t (ix3 0 f l) = argWd m c (ix3 e F l) := by
  have hi := block_moving t
  blk_simp [iblk]
  rw [V_wd]
  pointwise
  blk_ext [hi, he, hF]

end Cert.KernelIdeal

end
-- ==== Proof.Rows.lean ====
/- The first point of a row block, read row by row: the hidden rows, the eight logits of a row, and the two picks with their gates. -/
module

public import proofs.«01_k».proof.Proof.Point
public import proofs.«01_k».proof.Proof.Blocks
public import proofs.«01_k».proof.Proof.Moe

@[expose] public section

set_option maxRecDepth 16384

noncomputable section

namespace Cert.KernelIdeal

open Idealize.ShloMosaic Idealize.ShloMosaic.TcCoe Idealize.SL.Sem
open Cert.KernelIdeal.Gen

variable (m : (ℓ : Loc nD τ sig) → Buf (Elt Ideal) ℓ) (c : Dev nD)

/-- The five arguments the router reads are finite. -/
structure Routed : Prop where
  ng : ∀ k : Fin 1024, Moe.IsReal (argNg m c (ix1 k))
  sc : ∀ k : Fin 1024, Moe.IsReal (argSc m c (ix3 0 0 k))
  sh : ∀ k : Fin 1024, Moe.IsReal (argSh m c (ix3 0 0 k))
  rw : ∀ (k : Fin 1024) (e : Fin 8), Moe.IsReal (argRw m c (ix2 k e))
  rb : ∀ e : Fin 8, Moe.IsReal (argRb m c (ix1 e))

/-- Row `R` of the hidden activations, and its eight logits. -/
def hrow (R : Fin 16384) : Fin 1024 → EReal :=
  Moe.hidden (fun k => argX m c (ix3 0 R k)) (fun k => argNg m c (ix1 k)) (fun k => argSc m c (ix3 0 0 k)) (fun k => argSh m c (ix3 0 0 k))
def lrow (R : Fin 16384) : Fin 8 → EReal := Moe.logit (hrow m c R) (fun k e => argRw m c (ix2 k e)) (fun e => argRb m c (ix1 e))

variable {m c}

theorem Routed.hrow (h : Routed m c) (R : Fin 16384) (k : Fin 1024) : Moe.IsReal (hrow m c R k) :=
  Moe.isReal_hidden _ _ _ _ h.ng h.sc h.sh k

theorem Routed.lrow (h : Routed m c) (R : Fin 16384) (e : Fin 8) : Moe.IsReal (lrow m c R e) :=
  Moe.isReal_logit _ _ _ (h.hrow R) h.rw h.rb e

variable (m c)

/-- The block of hidden rows holds the rows `512 i + r` of the array. -/
theorem hidden_block (t : Fin cfg0.N) (r : Fin 512) (R : Fin 16384) (hR : R.val = 512 * (t.val / 56) + r.val) (k : Fin 1024) :
    k0_pay5 (F := Ideal) (iblk m c 0 t) (iblk m c 4 t) (iblk m c 2 t) (iblk m c 1 t) (ix2 r k) = hrow m c R k := by
  pointwise [k0_pay5]
  simp only [blk_x m c t r _ R hR, blk_ng m c t, blk_sc m c t, blk_sh m c t]
  rfl

/-- The two words for minus infinity and the masked lane's index. -/
theorem negInf : Ideal.ofBits .f32 4286578688#32 = ⊥ := by simp [Ideal.ofBits, Ideal.ieee]

theorem word_lt (k : Fin 128) : IntOp.cmpi .slt (BitVec.ofNat 32 ↑k) 8#32 = BitVec.ofBool (decide (k.val < 8)) := by
  revert k; decide

variable (t : Fin cfg0.N)

/-- The masked logits of the block's rows, as the first point computes them. -/
def scores : FVec Ideal S512x128 .f32 :=
  k0_pay15 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)

/-- On finite rows the split's remainders vanish, so they are the row's logits, with minus infinity in the lanes past the experts. -/
theorem scores_eq (hr : Routed m c) (r : Fin 512) (R : Fin 16384) (hR : R.val = 512 * (t.val / 56) + r.val) (j : Fin 128) :
    scores m c t (ix2 r j) = Top2.lanes (lrow m c R) j := by
  have p5 := hidden_block m c t r R hR
  have p7 : ∀ k, k0_pay7 (F := Ideal) (iblk m c 0 t) (iblk m c 4 t) (iblk m c 2 t) (iblk m c 1 t) (ix2 r k) = hrow m c R k := by
    intro k; pointwise [k0_pay7]; exact p5 k
  have p8 : ∀ k, k0_pay8 (F := Ideal) (iblk m c 0 t) (iblk m c 4 t) (iblk m c 2 t) (iblk m c 1 t) (ix2 r k) = 0 := by
    intro k; pointwise [k0_pay8]; rw [p5 k, p7 k]; exact (hr.hrow R k).sub_self
  have p9 : ∀ k, k0_pay9 (F := Ideal) (iblk m c 0 t) (iblk m c 4 t) (iblk m c 2 t) (iblk m c 1 t) (ix2 r k) = 0 := by
    intro k; pointwise [k0_pay9]; exact p8 k
  have p10 : ∀ k, k0_pay10 (F := Ideal) (iblk m c 0 t) (iblk m c 4 t) (iblk m c 2 t) (iblk m c 1 t) (ix2 r k) = 0 := by
    intro k; pointwise [k0_pay10]; rw [p8 k, p9 k]; exact Moe.isReal_zero.sub_self
  unfold scores
  by_cases hj : j.val < 8
  · have hw : ∀ k, k0_pay11 (F := Ideal) (iblk m c 5 t) (ix2 k j) = argRw m c (ix2 k ⟨j.val, hj⟩) := by
      intro k; pointwise [k0_pay11]; exact blk_rw m c t k j ⟨j.val, hj⟩ rfl
    have p12 : ∀ k, k0_pay12 (F := Ideal) (iblk m c 5 t) (ix2 k j) = argRw m c (ix2 k ⟨j.val, hj⟩) := by
      intro k; pointwise [k0_pay12]; exact hw k
    have p13 : ∀ k, k0_pay13 (F := Ideal) (iblk m c 5 t) (ix2 k j) = 0 := by
      intro k; pointwise [k0_pay13]; rw [hw k, p12 k]; exact (hr.rw k _).sub_self
    have p14 : ∀ k, k0_pay14 (F := Ideal) (iblk m c 5 t) (ix2 k j) = 0 := by
      intro k; pointwise [k0_pay14]; exact p13 k
    pointwise [k0_pay15]
    simp only [p7, p9, p10, p12, p13, p14, word_lt, hj, blk_rb m c t j ⟨j.val, hj⟩ rfl]
    simp only [Top2.lanes, hj, dif_pos, lrow, Moe.logit, decide_true, BitVec.ofBool_true, Scalar.select, mul_zero, zero_mul, Finset.sum_const_zero, add_zero, Moe.isReal_zero.sub_self]
    simp
  · pointwise [k0_pay15]
    simp only [word_lt, hj, negInf, Top2.lanes, dif_neg, not_false_eq_true, decide_false, BitVec.ofBool_false, Scalar.select]
    simp

/-- The scores with the first pick's lane struck out. -/
def struck : FVec Ideal S512x128 .f32 :=
  k0_pay18 (F := Ideal) (k0_pay7 (iblk m c 0 t) (iblk m c 4 t) (iblk m c 2 t) (iblk m c 1 t)) (k0_pay9 (iblk m c 0 t) (iblk m c 4 t) (iblk m c 2 t) (iblk m c 1 t))
    (k0_pay10 (iblk m c 0 t) (iblk m c 4 t) (iblk m c 2 t) (iblk m c 1 t)) (k0_pay12 (iblk m c 5 t)) (k0_pay13 (iblk m c 5 t)) (k0_pay14 (iblk m c 5 t)) (iblk m c 6 t)

theorem v1_fold (r : Fin 512) : v1 m c t (ix2 r 0) = Finset.fold max ⊥ (fun x => scores m c t (ix2 r x)) Finset.univ := by
  unfold v1 scores
  pointwise [k0_pay16]
  rw [negInf]

theorem i1_fold (r : Fin 512) : i1 m c t (ix2 r 0) = Finset.fold IntOp.minsi 2147483647#32
    (fun x : Fin 128 => if scores m c t (ix2 r x) = v1 m c t (ix2 r 0) then BitVec.ofNat 32 ↑x else 128#32) Finset.univ := by
  unfold i1 v1 scores
  pointwise [k0_pay17]

theorem struck_eq (r : Fin 512) (j : Fin 128) : struck m c t (ix2 r j)
    = Scalar.select (IntOp.cmpi .eq (BitVec.ofNat 32 ↑j) (i1 m c t (ix2 r 0))) ⊥ (scores m c t (ix2 r j)) := by
  unfold struck i1 scores
  pointwise [k0_pay18]
  rw [negInf]

theorem v2_fold (r : Fin 512) : v2 m c t (ix2 r 0) = Finset.fold max ⊥ (fun x => struck m c t (ix2 r x)) Finset.univ := by
  unfold v2 struck
  pointwise [k0_pay19]
  rw [negInf]

theorem i2_fold (r : Fin 512) : i2 m c t (ix2 r 0) = Finset.fold IntOp.minsi 2147483647#32
    (fun x : Fin 128 => if struck m c t (ix2 r x) = v2 m c t (ix2 r 0) then BitVec.ofNat 32 ↑x else 128#32) Finset.univ := by
  unfold i2 v2 struck
  pointwise [k0_pay20]

theorem word_eq (j k : Fin 128) : IntOp.cmpi .eq (BitVec.ofNat 32 ↑j) (BitVec.ofNat 32 ↑k) = BitVec.ofBool (decide (j = k)) := by
  have h : (BitVec.ofNat 32 ↑j = BitVec.ofNat 32 ↑k) ↔ j = k := by
    rw [← BitVec.toNat_inj, BitVec.toNat_ofNat, BitVec.toNat_ofNat, Nat.mod_eq_of_lt (by omega), Nat.mod_eq_of_lt (by omega)]
    exact Fin.val_inj
  show BitVec.ofBool (BitVec.ofNat 32 ↑j == BitVec.ofNat 32 ↑k) = _
  rw [Bool.eq_iff_iff.mpr (show ((BitVec.ofNat 32 ↑j == BitVec.ofNat 32 ↑k) = true) ↔ (decide (j = k) = true) by simpa using h)]

/-- The gate the first point stores for an expert is the expert's weight in the row. -/
theorem gate_eq (hr : Routed m c) (r : Fin 512) (R : Fin 16384) (hR : R.val = 512 * (t.val / 56) + r.val) (e : Fin 8) :
    gate (v1 m c t (ix2 r 0)) (v2 m c t (ix2 r 0)) (i1 m c t (ix2 r 0)) (i2 m c t (ix2 r 0)) e = Moe.weight (lrow m c R) e := by
  have hs := scores_eq m c t hr r R hR
  have hb : ∀ j, ⊥ < lrow m c R j := fun j => bot_lt_iff_ne_bot.mpr (hr.lrow R j).ne_bot
  have f1 := Top2.first_lanes (Top2.pickA_first (lrow m c R)) (hb _)
  have hp := Top2.picks _ hb
  have hv1 : v1 m c t (ix2 r 0) = lrow m c R (Top2.pickA (lrow m c R)) := by
    rw [v1_fold]; simp only [hs]; rw [f1.fold_max, Top2.lanes_lane]
  have hi1 : i1 m c t (ix2 r 0) = BitVec.ofNat 32 (Top2.pickA (lrow m c R)).val := by
    rw [i1_fold]; simp only [hs, hv1]; rw [← Top2.lanes_lane (lrow m c R)]; exact f1.fold_index
  have hk : ∀ j, struck m c t (ix2 r j) = Top2.lanes (Top2.strike (lrow m c R) (Top2.pickA (lrow m c R))) j := by
    intro j
    rw [struck_eq, hi1, hs, ← Top2.strike_lanes]
    show Scalar.select (IntOp.cmpi .eq (BitVec.ofNat 32 ↑j) (BitVec.ofNat 32 ↑(Top2.lane (Top2.pickA (lrow m c R))))) _ _ = _
    rw [word_eq]
    by_cases h : j = Top2.lane (Top2.pickA (lrow m c R)) <;> simp [h, Top2.strike, Scalar.select]
  have f2 := Top2.first_lanes (Top2.pickB_first (lrow m c R)) (by rw [hp.2]; exact hb _)
  have hv2 : v2 m c t (ix2 r 0) = lrow m c R (Top2.pickB (lrow m c R)) := by
    rw [v2_fold]; simp only [hk]; rw [f2.fold_max, Top2.lanes_lane, hp.2]
  have hi2 : i2 m c t (ix2 r 0) = BitVec.ofNat 32 (Top2.pickB (lrow m c R)).val := by
    rw [i2_fold]; simp only [hk, hv2]; rw [← hp.2, ← Top2.lanes_lane (Top2.strike _ _)]; exact f2.fold_index
  have hw : ∀ a : Fin 8, ∀ x y : EReal, Scalar.select (IntOp.cmpi .eq (BitVec.ofNat 32 a.val) (BitVec.ofNat 32 e.val)) x y = if a = e then x else y := by
    intro a x y
    have := word_eq (Top2.lane a) (Top2.lane e)
    rw [show IntOp.cmpi .eq (BitVec.ofNat 32 a.val) (BitVec.ofNat 32 e.val) = _ from this]
    by_cases h : a = e
    · subst h; simp [Scalar.select]
    · have : ¬ Top2.lane a = Top2.lane e := fun q => h (Fin.ext (by simpa [Top2.lane] using congrArg Fin.val q))
      simp [h, this, Scalar.select]
  rw [hv1, hv2, hi1, hi2, gate, hw, hw]
  rfl

end Cert.KernelIdeal

end
-- ==== Proof.Sweep.lean ====
/- The points of a row block in order: the accumulator is the sum of the gated chunks so far, and the last point's block is the layer's output. -/
module

public import proofs.«01_k».proof.Proof.Rows

@[expose] public section

set_option maxRecDepth 16384

noncomputable section

namespace Cert.KernelIdeal

open Idealize.ShloMosaic Idealize.ShloMosaic.TcCoe Idealize.SL.Sem
open Cert.KernelIdeal.Gen Cert.KernelIdeal.Value

variable (m : (ℓ : Loc nD τ sig) → Buf (Elt Ideal) ℓ) (c : Dev nD)

/-- Expert `e`'s two inner projections and its outer one. -/
abbrev wgate (e : Fin 8) (k : Fin 1024) (f : Fin 3584) : EReal := argWg m c (ix3 e k f)
abbrev wup (e : Fin 8) (k : Fin 1024) (f : Fin 3584) : EReal := argWu m c (ix3 e k f)
abbrev wdown (e : Fin 8) (f : Fin 3584) (l : Fin 1024) : EReal := argWd m c (ix3 e f l)

/-- What chunk `q` of expert `e` gives to lane `l` of row `R`, before the gate. -/
def chunk (R : Fin 16384) (l : Fin 1024) (e : Fin 8) (q : Fin 7) : EReal :=
  ∑ f : Fin 512, Moe.inner (hrow m c R) (wgate m c e) (wup m c e) (wdown m c e) l ⟨q.val * 512 + f.val, by omega⟩

/-- What point number `s` of the row's block adds to the accumulator. -/
def part (R : Fin 16384) (l : Fin 1024) (s : ℕ) : EReal :=
  if h : s < 56 then Moe.weight (lrow m c R) ⟨s / 7, by omega⟩ * chunk m c R l ⟨s / 7, by omega⟩ ⟨s % 7, by omega⟩ else 0

theorem part_of (R : Fin 16384) (l : Fin 1024) (s : ℕ) (e : Fin 8) (q : Fin 7) (he : e.val = s / 7) (hq : q.val = s % 7) :
    part m c R l s = Moe.weight (lrow m c R) e * chunk m c R l e q := by
  have h : s < 56 := by omega
  rw [part, dif_pos h, show e = ⟨s / 7, by omega⟩ from Fin.ext he, show q = ⟨s % 7, by omega⟩ from Fin.ext hq]

/-- Over hidden rows, the point's product of blocks is its chunk. -/
theorem chunk_block (t : Fin cfg0.N) (H : FVec Ideal S512x1024 .bf16) (r : Fin 512) (R : Fin 16384) (hH : ∀ k, H (ix2 r k) = hrow m c R k)
    (l : Fin 1024) (e : Fin 8) (q : Fin 7) (he : e.val = t.val % 56 / 7) (hq : q.val = t.val % 56 % 7) :
    k0_pay36 (F := Ideal) H (iblk m c 7 t) (iblk m c 8 t) (iblk m c 9 t) (ix2 r l) = chunk m c R l e q := by
  pointwise [k0_pay36]
  have hF : ∀ f : Fin 512, q.val * 512 + f.val = t.val % 7 * 512 + f.val := fun f => by omega
  have gg : ∀ k f, iblk m c 7 t (ix3 0 k f) = wgate m c e k ⟨q.val * 512 + f.val, by omega⟩ := fun k f => blk_wg m c t k f e he _ (hF f)
  have gu : ∀ k f, iblk m c 8 t (ix3 0 k f) = wup m c e k ⟨q.val * 512 + f.val, by omega⟩ := fun k f => blk_wu m c t k f e he _ (hF f)
  have gd : ∀ f l, iblk m c 9 t (ix3 0 f l) = wdown m c e ⟨q.val * 512 + f.val, by omega⟩ l := fun f l => blk_wd m c t f l e he _ (hF f)
  simp only [hH, gg, gu, gd]
  rfl

/-- After point `n`: the hidden block holds the rows' hidden activations, the gates the rows' weights, and the accumulator the sum of the parts of
    the points of the row block so far. -/
theorem sweep (hr : Routed m c) : ∀ (n : ℕ) (hn : n < cfg0.N) (r : Fin 512) (R : Fin 16384) (_ : R.val = 512 * (n / 56) + r.val),
    (∀ k, (outsAt0 m c n hn).2.1 (ix2 r k) = hrow m c R k)
      ∧ (∀ (e : Fin 8) (l : Fin 128), (outsAt0 m c n hn).2.2.1 (ix3 e r l) = Moe.weight (lrow m c R) e)
      ∧ ∀ l : Fin 1024, (outsAt0 m c n hn).2.2.2 (ix2 r l) = ∑ s ∈ Finset.range (n % 56 + 1), part m c R l s := by
  intro n
  induction n with
  | zero =>
    intro hn r R hR
    exact start ⟨0, hn⟩ rfl r R hR
  | succ n ih =>
    intro hn r R hR
    by_cases h0 : (n + 1) % 56 = 0
    · exact start ⟨n + 1, hn⟩ h0 r R hR
    · obtain ⟨ihH, ihW, ihA⟩ := ih (by omega) r R (by omega)
      have hk := later_kept m c ⟨n + 1, hn⟩ h0 _ rfl
      have ha := later_acc m c ⟨n + 1, hn⟩ h0 _ rfl r
      simp only [Nat.add_sub_cancel] at hk ha
      refine ⟨fun k => (congrFun hk.1 _).trans (ihH k), fun e l => (congrFun hk.2 _).trans (ihW e l), fun l => ?_⟩
      rw [ha l]
      rw [show (n + 1) % 56 + 1 = (n % 56 + 1) + 1 by omega, Finset.sum_range_succ]
      refine Ideal.add_congr (ihA l) ?_
      rw [part_of m c R l (n % 56 + 1) ⟨(n + 1) % 56 / 7, by omega⟩ ⟨(n + 1) % 56 % 7, by omega⟩ (by simp only []; omega) (by simp only []; omega)]
      exact Ideal.mul_congr (ihW _ _) (chunk_block m c ⟨n + 1, hn⟩ _ r R ihH l _ _ rfl rfl)
where
  start (t : Fin cfg0.N) (h0 : t.val % 56 = 0) (r : Fin 512) (R : Fin 16384) (hR : R.val = 512 * (t.val / 56) + r.val) :
      (∀ k, (outsAt0 m c t.val t.isLt).2.1 (ix2 r k) = hrow m c R k)
        ∧ (∀ (e : Fin 8) (l : Fin 128), (outsAt0 m c t.val t.isLt).2.2.1 (ix3 e r l) = Moe.weight (lrow m c R) e)
        ∧ ∀ l : Fin 1024, (outsAt0 m c t.val t.isLt).2.2.2 (ix2 r l) = ∑ s ∈ Finset.range (t.val % 56 + 1), part m c R l s := by
    have hH : ∀ k, (outsAt0 m c t.val t.isLt).2.1 (ix2 r k) = hrow m c R k := fun k => by
      rw [first_hidden m c t h0]
      pointwise [k0_pay6]
      exact hidden_block m c t r R hR k
    have hW : ∀ (e : Fin 8) (l : Fin 128), (outsAt0 m c t.val t.isLt).2.2.1 (ix3 e r l) = Moe.weight (lrow m c R) e := fun e l =>
      (first_gate m c t h0 e r l).trans (gate_eq m c t hr r R hR e)
    refine ⟨hH, hW, fun l => ?_⟩
    rw [first_acc m c t h0 r l, show Finset.range (t.val % 56 + 1) = Finset.range 1 by rw [h0], Finset.sum_range_one, part_of m c R l 0 ⟨t.val % 56 / 7, by omega⟩ ⟨t.val % 56 % 7, by omega⟩ (by simp only []; omega) (by simp only []; omega)]
    exact Ideal.mul_congr (hW _ _) (chunk_block m c t _ r R hH l _ _ rfl rfl)

/-- The accumulator after a row block's last point: the sum over the experts, each times its weight. -/
theorem acc_last (hr : Routed m c) (t : Fin cfg0.N) (h0 : t.val % 56 = 55) (r : Fin 512) (R : Fin 16384) (hR : R.val = 512 * (t.val / 56) + r.val)
    (l : Fin 1024) : (outsAt0 m c t.val t.isLt).2.2.2 (ix2 r l)
      = ∑ e, Moe.weight (lrow m c R) e * Moe.expert (hrow m c R) (wgate m c e) (wup m c e) (wdown m c e) l := by
  rw [(sweep m c hr t.val t.isLt r R hR).2.2 l, h0]
  exact Moe.sum_chunks _ (Moe.weight_real _ (hr.lrow R)) (fun e => Moe.inner (hrow m c R) (wgate m c e) (wup m c e) (wdown m c e) l) (part m c R l)
    (fun e q => part_of m c R l _ e q (by omega) (by omega))

/-- Row `R` of the layer's output. -/
def outRow (R : Fin 16384) : Fin 1024 → EReal :=
  Moe.out (fun k => argX m c (ix3 0 R k)) (hrow m c R) (fun k => argG2 m c (ix3 0 0 k)) (lrow m c R) (wgate m c) (wup m c) (wdown m c)
    (fun k => argFg m c (ix1 k))

/-- The kernel leaves the layer's output, row by row. -/
theorem kernel_out (hr : Routed m c) (R : Fin 16384) (l : Fin 1024) : G11 m c (ix2 R l) = outRow m c R l := by
  have hp : pt11Of (ix2 R l) = 56 * (R.val / 512) + 55 := by
    show 56 * (1 * (R.val / 512 - 0) + 1 * (l.val / 1024 - 0)) + 55 = _
    omega
  have hN := N_eq
  have hlt : pt11Of (ix2 R l) < cfg0.N := hp.trans_lt (by rw [hN]; omega)
  have hloc : loc11Of (ix2 R l) = ix2 (⟨R.val % 512, by omega⟩ : Fin 512) l := by
    funext a
    match a with
    | ⟨0, _⟩ => rfl
    | ⟨1, _⟩ => exact Fin.ext (show l.val % 1024 = l.val by omega)
  unfold G11
  rw [dif_pos hlt, ← outsAt0_sweep m c _ hlt, hloc]
  obtain ⟨t, ht⟩ : ∃ t : Fin cfg0.N, t.val = pt11Of (ix2 R l) := ⟨⟨_, hlt⟩, rfl⟩
  have ht' : t.val = 56 * (R.val / 512) + 55 := ht.trans hp
  have key : (outsAt0 m c t.val t.isLt).1 (ix2 (⟨R.val % 512, by omega⟩ : Fin 512) l) = outRow m c R l := by
    have hR : R.val = 512 * (t.val / 56) + (⟨R.val % 512, by omega⟩ : Fin 512).val := by simp only []; omega
    rw [last_out m c t (by omega)]
    have ha := acc_last m c hr t (by omega) (⟨R.val % 512, by omega⟩ : Fin 512) R hR
    generalize (outsAt0 m c t.val t.isLt).2.2.2 = A at ha
    pointwise [k0_pay4]
    simp only [ha, blk_x m c t _ _ R hR, blk_g2 m c t, blk_fg m c t]
    rfl
  simpa only [ht] using key

end Cert.KernelIdeal

end
-- ==== Proof.RefRows.lean ====
/- The reference, row by row: the hidden rows, their logits, the two picks with their gates, and the layer's output. -/
module

public import proofs.«01_k».proof.Proof.Gen.ReferenceIdeal.Run
public import proofs.«01_k».proof.Proof.Moe
public import Idealize.ShloMosaic.Lib.Pointwise

@[expose] public section

set_option maxRecDepth 16384

noncomputable section

namespace Cert.ReferenceIdeal

open Idealize.ShloMosaic Idealize.ShloMosaic.TcCoe Idealize.SL.Sem
open Cert.ReferenceIdeal.Gen Cert.ReferenceIdeal.Value

variable (V0 : Valuation τ sig (Elt Ideal))

/-- The arguments. -/
abbrev aX : FVec Ideal S1x16384x1024 .f32 := V0 (Proc.devRef .tc main_arg0)
abbrev aSh : FVec Ideal S1x1x1024 .f32 := V0 (Proc.devRef .tc main_arg1)
abbrev aSc : FVec Ideal S1x1x1024 .f32 := V0 (Proc.devRef .tc main_arg2)
abbrev aG2 : FVec Ideal S1x1x1024 .f32 := V0 (Proc.devRef .tc main_arg3)
abbrev aNg : FVec Ideal S1024 .f32 := V0 (Proc.devRef .tc main_arg4)
abbrev aRw : FVec Ideal S1024x8 .f32 := V0 (Proc.devRef .tc main_arg5)
abbrev aRb : FVec Ideal S8 .f32 := V0 (Proc.devRef .tc main_arg6)
abbrev aWg : FVec Ideal S8x1024x3584 .f32 := V0 (Proc.devRef .tc main_arg7)
abbrev aWu : FVec Ideal S8x1024x3584 .f32 := V0 (Proc.devRef .tc main_arg8)
abbrev aWd : FVec Ideal S8x3584x1024 .f32 := V0 (Proc.devRef .tc main_arg9)
abbrev aFg : FVec Ideal S1024 .f32 := V0 (Proc.devRef .tc main_arg10)

/-- Row `R` of the hidden activations, and its eight logits. -/
def hid (R : Fin 16384) : Fin 1024 → EReal :=
  Moe.hidden (fun k => aX V0 (ix3 0 R k)) (fun k => aNg V0 (ix1 k)) (fun k => aSc V0 (ix3 0 0 k)) (fun k => aSh V0 (ix3 0 0 k))
def log (R : Fin 16384) : Fin 8 → EReal := Moe.logit (hid V0 R) (fun k e => aRw V0 (ix2 k e)) (fun e => aRb V0 (ix1 e))

/-- The reference's hidden rows are these, -/
theorem v18_eq (R : Fin 16384) (k : Fin 1024) : res_main_v18 V0 (ix3 0 R k) = hid V0 R k := by
  unfold hid Moe.hidden Moe.norm Moe.width Moe.eps
  pointwise [res_main_v18]

/-- its logits these. -/
theorem v22_eq (R : Fin 16384) (e : Fin 8) : res_main_v22 V0 (ix3 0 R e) = log V0 R e := by
  unfold log Moe.logit
  pointwise [res_main_v22]
  simp only [v18_eq]

theorem along_lane (R : Fin 16384) (q k : Fin 8) : (ix3 (0 : Fin 1) R q : S1x16384x8.Idx).along 2 k = ix3 (0 : Fin 1) R k := by
  funext a
  match a with
  | ⟨0, _⟩ => rfl
  | ⟨1, _⟩ => rfl
  | ⟨2, _⟩ => rfl

theorem gt_decide (x y : EReal) : (FloatOps.cmpfTotal (F := Ideal) (φ := .f32) CmpDirection.gt x y == 1#1) = decide (y < x) := by
  show (BitVec.ofBool (decide (y < x)) == 1#1) = _
  by_cases h : y < x <;> simp [h]

/-- The two greatest logits of a row stand at the two picks, and the picks are what the reference selects. -/
theorem top_values (l : FVec Ideal S1x16384x8 .f32) (R : Fin 16384) (a b : Fin 8) (h : Top2.Picks (fun e => l (ix3 0 R e)) a b) (i : Fin 2) :
    (Host.topK S1x16384x2 2 (FloatOps.cmpfTotal .gt) l sliceFits_S1x16384x8_S1x16384x2).1 (ix3 0 R i) = l (ix3 0 R ((![a, b] : Fin 2 → Fin 8) i)) := by
  rw [← h.sortedFrom]
  unfold Host.topK Host.sort2
  pointwise
  refine congrArg l ((along_lane R _ _).trans (congrArg (ix3 (0 : Fin 1) R) (congrArg (fun f => sortedFrom f _) ?_)))
  funext k k'
  rw [gt_decide]
  exact congrArg₂ (fun p q => decide (l p < l q)) (along_lane R _ _) (along_lane R _ _)

theorem top_indices (l : FVec Ideal S1x16384x8 .f32) (R : Fin 16384) (a b : Fin 8) (h : Top2.Picks (fun e => l (ix3 0 R e)) a b) (i : Fin 2) :
    (Host.topK S1x16384x2 2 (FloatOps.cmpfTotal .gt) l sliceFits_S1x16384x8_S1x16384x2).2 (ix3 0 R i)
      = BitVec.ofNat 32 ((![a, b] : Fin 2 → Fin 8) i).val := by
  rw [← h.sortedFrom]
  unfold Host.topK Host.sort2
  pointwise
  refine congrArg (fun e : Fin 8 => BitVec.ofNat 32 e.val) ((congrArg (fun f => sortedFrom f _) ?_))
  funext k k'
  rw [gt_decide]
  exact congrArg₂ (fun p q => decide (l p < l q)) (along_lane R _ _) (along_lane R _ _)

/-- The exponentials of the softmax: of each pick's logit less the greater. -/
theorem v29_eq (R : Fin 16384) (i : Fin 2) : res_main_v29 V0 (ix3 0 R i)
    = Ideal.exp ((show EReal from res_main_values V0 (ix3 0 R i)) - max ⊥ (Finset.fold max ⊥ (fun k : Fin 2 => (show EReal from res_main_values V0 (ix3 0 R k)))
        Finset.univ)) := by
  unfold res_main_v29
  generalize res_main_values V0 = v
  change FVec Ideal S1x16384x2 .f32 at v
  pointwise
  rw [show Ideal.ofBits .f32 4286578688#32 = ⊥ by simp [Ideal.ofBits, Ideal.ieee]]
  refine congrArg (fun z => Ideal.exp (v (ix3 0 R i) - max ⊥ z)) ?_
  refine (Shape.ReducesTo.fold_fiber_r3_a2 reducesTo_S1x16384x2_S1x16384_d2 (ix2 0 R) max ⊥ v).trans ?_
  refine congrArg (fun g => Finset.fold max ⊥ g Finset.univ) (funext fun k => congrArg v ?_)
  idx_ext

/-- A word's test for an expert, as a number. -/
theorem onehot (a e : Fin 8) : FloatOps.uitofp (F := Ideal) FTy.f32 (IntOp.cmpi CmpIPredicate.eq (BitVec.ofNat 32 ↑a) (BitVec.ofNat 32 ↑e))
    = if a = e then (1 : EReal) else 0 := by
  have h : IntOp.cmpi CmpIPredicate.eq (BitVec.ofNat 32 ↑a) (BitVec.ofNat 32 ↑e) = if a = e then 1#1 else 0#1 := by
    revert a e; decide
  rw [h]
  split
  · show (((1#1 : BitVec 1).toNat : ℝ) : EReal) = 1
    simp
  · show (((0#1 : BitVec 1).toNat : ℝ) : EReal) = 0
    simp

/-- The reference's gates are the row's weights. -/
theorem v38_eq (hl : ∀ R e, Moe.IsReal (log V0 R e)) (R : Fin 16384) (e : Fin 8) : res_main_v38 V0 (ix3 0 R e) = Moe.weight (log V0 R) e := by
  have hp := (Top2.picks (log V0 R) (fun j => bot_lt_iff_ne_bot.mpr (hl R j).ne_bot)).1
  have h22 : ∀ e, res_main_v22 V0 (ix3 0 R e) = log V0 R e := v22_eq V0 R
  have hpl : Top2.Picks (fun e => res_main_v22 V0 (ix3 0 R e)) (Top2.pickA (log V0 R)) (Top2.pickB (log V0 R)) := by
    rw [show (fun e => res_main_v22 V0 (ix3 0 R e)) = log V0 R from funext h22]; exact hp
  have hi := top_indices (res_main_v22 V0) R _ _ hpl
  have hv : ∀ i, Eq (α := EReal) (res_main_values V0 (ix3 0 R i)) (log V0 R ((![Top2.pickA (log V0 R), Top2.pickB (log V0 R)] : Fin 2 → Fin 8) i)) := fun i =>
    (top_values (res_main_v22 V0) R _ _ hpl i).trans (h22 _)
  have hle : log V0 R (Top2.pickB (log V0 R)) ≤ log V0 R (Top2.pickA (log V0 R)) := hp.fst.top _
  have hf : Finset.fold max ⊥ (fun k : Fin 2 => (show EReal from res_main_values V0 (ix3 0 R k))) Finset.univ = log V0 R (Top2.pickA (log V0 R)) := by
    refine le_antisymm ((Finset.fold_max_le _).mpr ⟨bot_le, fun k _ => ?_⟩) ((Finset.le_fold_max _).mpr (Or.inr ⟨0, Finset.mem_univ _, (hv 0).ge⟩))
    refine (hv k).le.trans ?_
    match k with
    | 0 => exact le_rfl
    | 1 => exact hle
  have e0 : res_main_v29 V0 (ix3 0 R 0) = (1 : EReal) := by
    rw [v29_eq, hf, max_eq_right bot_le]
    refine (congrArg (fun z : EReal => Ideal.exp (z - log V0 R (Top2.pickA (log V0 R)))) (hv 0)).trans ?_
    show Ideal.exp (log V0 R (Top2.pickA (log V0 R)) - log V0 R (Top2.pickA (log V0 R))) = 1
    rw [(hl R _).sub_self, ← EReal.coe_zero]
    exact (Ideal.exp_coe 0).trans (by simp)
  have e1 : res_main_v29 V0 (ix3 0 R 1) = Ideal.exp (log V0 R (Top2.pickB (log V0 R)) - log V0 R (Top2.pickA (log V0 R))) := by
    rw [v29_eq, hf, max_eq_right bot_le]
    exact congrArg (fun z : EReal => Ideal.exp (z - log V0 R (Top2.pickA (log V0 R)))) (hv 1)
  pointwise [res_main_v38]
  simp only [hi, Fin.sum_univ_two, onehot]
  rw [e0, e1]
  show (if Top2.pickA (log V0 R) = e then (1 : EReal) else 0) * _ + (if Top2.pickB (log V0 R) = e then (1 : EReal) else 0) * _ = _
  unfold Moe.weight
  simp only [ite_mul, one_mul, zero_mul]

/-- The residual over the weighted experts. -/
theorem v160_eq (hl : ∀ R e, Moe.IsReal (log V0 R e)) (R : Fin 16384) (k : Fin 1024) :
    res_main_v160 V0 (ix3 0 R k) = (show EReal from aX V0 (ix3 0 R k) + aG2 V0 (ix3 0 0 k) * ∑ e, Moe.weight (log V0 R) e
      * Moe.expert (hid V0 R) (fun k f => aWg V0 (ix3 e k f)) (fun k f => aWu V0 (ix3 e k f)) (fun f l => aWd V0 (ix3 e f l)) k) := by
  pointwise [res_main_v160, res_main_v112, res_main_v46, res_main_v60, res_main_v75, res_main_v90, res_main_v105, res_main_v120, res_main_v135, res_main_v150]
  simp only [v38_eq V0 hl, v18_eq, Fin.sum_univ_eight]
  rfl

/-- The rows of the reference's result. -/
theorem reference_out (hl : ∀ R e, Moe.IsReal (log V0 R e)) (R : Fin 16384) (k : Fin 1024) :
    (shapeCast S16384x1024 (mulf (mulf (res_main_v160 V0) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (res_main_v160 V0) (res_main_v160 V0)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (V0 (Proc.devRef .tc main_arg10))))) shapeCasts_S1x16384x1024_S16384x1024 : FVec Ideal S16384x1024 .f32) (ix2 R k)
      = Moe.out (fun k => aX V0 (ix3 0 R k)) (hid V0 R) (fun k => aG2 V0 (ix3 0 0 k)) (log V0 R) (fun e k f => aWg V0 (ix3 e k f))
          (fun e k f => aWu V0 (ix3 e k f)) (fun e f l => aWd V0 (ix3 e f l)) (fun k => aFg V0 (ix1 k)) k := by
  pointwise
  simp only [v160_eq V0 hl]
  rfl

end Cert.ReferenceIdeal

end
-- ==== Proof.Rotary.lean ====
/- The input projection of one token, over the extended reals and over no program: the columns of the projection, the rotary turn of the last
   eight heads in the reference's two halves and in the kernel's three tables, the log of the forget gate, and the mean over a block. -/
module

public import proofs.«01_k».proof.Proof.Moe

@[expose] public section

noncomputable section

namespace Cert.Rotary

open Idealize.ShloMosaic

/-- Column `n` of a hidden row's projection. (Columns are counted in ℕ: the turn below reads eight columns to either side.) -/
def col (h : Fin 1024 → EReal) (w : Fin 1024 → Fin 6148 → EReal) (n : ℕ) : EReal :=
  ∑ k, h k * w k ⟨n % 6148, Nat.mod_lt _ (by norm_num)⟩

theorem col_of (h : Fin 1024 → EReal) (w : Fin 1024 → Fin 6148 → EReal) (n : ℕ) (j : Fin 6148) (hj : j.val = n) :
    col h w n = ∑ k, h k * w k j := by
  unfold col
  rw [show (⟨n % 6148, Nat.mod_lt _ (by norm_num)⟩ : Fin 6148) = j from Fin.ext (by simp only []; omega)]

/-! ## The rotary turn -/

/-- Column `n` of heads of 64 columns, the first sixteen of each turned by the angles whose cosines and sines are `c` and `s`. -/
def turn (c s y : ℕ → EReal) (n : ℕ) : EReal :=
  if n % 64 < 8 then y n * c (n % 64) - y (n + 8) * s (n % 64)
  else if n % 64 < 16 then y n * c (n % 64 - 8) + y (n - 8) * s (n % 64 - 8)
  else y n

/-- Sixteen heads, of which the last eight turn. -/
def heads (c s y : ℕ → EReal) (n : ℕ) : EReal := if n < 512 then y n else turn c s y n

theorem heads_low (c s y : ℕ → EReal) (n : ℕ) (h : n < 512) : heads c s y n = y n := if_pos h
theorem heads_high (c s y : ℕ → EReal) (n : ℕ) (h : 512 ≤ n) : heads c s y n = turn c s y n := if_neg (by omega)

/-- The kernel's three tables: what multiplies a column, the column eight below and the column eight above. -/
def table (c : ℕ → EReal) (l : ℕ) : EReal := if l % 64 < 8 then c (l % 64) else if l % 64 < 16 then c (l % 64 - 8) else 1
def tableBelow (s : ℕ → EReal) (l : ℕ) : EReal := if l % 64 < 8 then 0 else if l % 64 < 16 then s (l % 64 - 8) else 0
def tableAbove (s : ℕ → EReal) (l : ℕ) : EReal := if l % 64 < 8 then -s (l % 64) else 0

/-- In a slab of 128 columns, turned cyclically by eight one way and the other, the three products add up to the turn: where the cyclic
    neighbour is another head's column, its table is zero. -/
theorem turn_slab (c s y : ℕ → EReal) (b l : ℕ) (hb : b % 64 = 0) (hl : l < 128) :
    y (b + l) * table c l + y (b + (l + 120) % 128) * tableBelow s l + y (b + (l + 8) % 128) * tableAbove s l = turn c s y (b + l) := by
  have hm : (b + l) % 64 = l % 64 := by omega
  unfold table tableBelow tableAbove turn
  rw [hm]
  by_cases h8 : l % 64 < 8
  · rw [if_pos h8, if_pos h8, if_pos h8, if_pos h8, mul_zero, add_zero, show (l + 8) % 128 = l + 8 by omega, mul_neg, ← add_assoc, sub_eq_add_neg]
  · rw [if_neg h8, if_neg h8, if_neg h8, if_neg h8, mul_zero, add_zero]
    by_cases h16 : l % 64 < 16
    · rw [if_pos h16, if_pos h16, if_pos h16, show b + (l + 120) % 128 = b + l - 8 by omega]
    · rw [if_neg h16, if_neg h16, if_neg h16, mul_zero, add_zero, mul_one]

/-- Leaving out whole heads before a column changes nothing of its turn. -/
theorem turn_shift (c s y : ℕ → EReal) (b : ℕ) (hb : b % 64 = 0) (n n' : ℕ) (hn : n' = b + n) : turn c s (fun i => y (b + i)) n = turn c s y n' := by
  subst hn
  have hm : (b + n) % 64 = n % 64 := by omega
  unfold turn
  rw [hm]
  split
  · rfl
  · split
    · simp only [show b + (n - 8) = b + n - 8 by omega]
    · rfl

/-! ## The forget gate and the block mean -/

/-- The log of the sigmoid, as the kernel writes it. -/
def logSigmoid (z : EReal) : EReal := min z 0 - Ideal.log1p (Ideal.exp (0 - max z (-z)))

/-- The reference's: minus the softplus of minus. -/
theorem logSigmoid_eq (z : EReal) : -(max (-z) 0 + Ideal.log1p (Ideal.exp (-max (-z - 0) (-(-z - 0))))) = logSigmoid z := by
  unfold logSigmoid
  rw [sub_zero, neg_neg, max_comm (-z) z, zero_sub]
  induction z with
  | bot =>
    rw [EReal.neg_bot, max_eq_left le_top, max_eq_right bot_le, min_eq_left bot_le, EReal.neg_top, Ideal.exp_bot, EReal.bot_sub]
    rw [Ideal.log1p, add_zero, ← EReal.coe_one, Ideal.log_coe, if_neg (by norm_num : ¬(1 : ℝ) ≤ 0), EReal.top_add_coe, EReal.neg_top]
  | top => rw [EReal.neg_top, max_eq_right bot_le, min_eq_right le_top, zero_add, zero_sub]
  | coe r =>
    generalize Ideal.log1p (Ideal.exp (-max (r : EReal) (-r))) = L
    have hm : max (-(r : EReal)) 0 = ((max (-r) 0 : ℝ) : EReal) := by rw [EReal.coe_strictMono.monotone.map_max, EReal.coe_neg, EReal.coe_zero]
    rw [hm, EReal.neg_add (Or.inl (EReal.coe_ne_bot _)) (Or.inl (EReal.coe_ne_top _)), ← EReal.coe_neg, ← EReal.coe_zero, ← EReal.coe_strictMono.monotone.map_min]
    refine congrArg (fun x : ℝ => (x : EReal) - L) ?_
    rcases le_total r 0 with h | h
    · rw [max_eq_left (by linarith), min_eq_left h, neg_neg]
    · rw [max_eq_right (by linarith), min_eq_right h, neg_zero]

/-- A sum over 256 divided by 256 is the sum times 1/256. -/
theorem mean_eq (x : EReal) : Ideal.div x (Ideal.ofBits .f32 1132462080#32) = x * Ideal.ofBits .f32 998244352#32 := by
  have h1 : Ideal.ofBits .f32 1132462080#32 = ((256 : ℝ) : EReal) := by simp [Ideal.ofBits, Ideal.ieee, -EReal.coe_mul]; norm_num
  have h2 : Ideal.ofBits .f32 998244352#32 = ((1 / 256 : ℝ) : EReal) := by simp [Ideal.ofBits, Ideal.ieee, -EReal.coe_mul]; norm_num
  rw [h1, h2, Ideal.div_coe (by norm_num)]

/-- The angle of position `R` at frequency `d`. -/
def angle (R d : ℕ) : EReal :=
  FloatOps.sitofp (F := Ideal) FTy.f32 (BitVec.ofNat 32 R) * Ideal.pow (Ideal.ofBits FTy.f32 1223959552#32)
    (Ideal.div (-(Ideal.ofBits FTy.f32 1073741824#32 * FloatOps.sitofp (F := Ideal) FTy.f32 (BitVec.ofNat 32 d))) (Ideal.ofBits FTy.f32 1098907648#32))

/-- Cosine and sine of that angle. -/
def cosOf (R d : ℕ) : EReal := FloatOps.cos (F := Ideal) (φ := FTy.f32) (angle R d)
def sinOf (R d : ℕ) : EReal := FloatOps.sin (F := Ideal) (φ := FTy.f32) (angle R d)

/-- The padding value, an integer zero made a float, is zero. -/
theorem pad_value : FloatOps.sitofp (F := Ideal) FTy.f32 (0#32) = (0 : EReal) := by
  show ((((0#32 : BitVec 32).toInt : ℤ) : ℝ) : EReal) = 0
  simp

end Cert.Rotary

end
-- ==== Proof.ProjectBlocks.lean ====
/- The projection's operands when its call starts, and the blocks of a point, element by element. -/
module

public import proofs.«01_k».proof.Proof.Gen.ProjectIdeal.Value
public import proofs.«01_k».proof.Proof.Rotary
public import Idealize.ShloMosaic.Lib.Claim

@[expose] public section

set_option maxRecDepth 16384

noncomputable section

namespace Cert.ProjectIdeal

open Idealize.ShloMosaic Idealize.ShloMosaic.TcCoe Idealize.SL.Sem
open Cert.ProjectIdeal.Gen

variable (m : (ℓ : Loc nD τ sig) → Buf (Elt Ideal) ℓ) (c : Dev nD)

/-! The arguments as arrays of extended reals. -/

abbrev argX : FVec Ideal S1x16384x1024 .f32 := m ((c : Thread nD τ).loc main_arg0)
abbrev argSh : FVec Ideal S1x1x1024 .f32 := m ((c : Thread nD τ).loc main_arg1)
abbrev argSc : FVec Ideal S1x1x1024 .f32 := m ((c : Thread nD τ).loc main_arg2)
abbrev argNg : FVec Ideal S1024 .f32 := m ((c : Thread nD τ).loc main_arg3)
abbrev argW : FVec Ideal S1024x6148 .f32 := m ((c : Thread nD τ).loc main_arg4)
abbrev argBf : FVec Ideal S4 .f32 := m ((c : Thread nD τ).loc main_arg5)

/-- The block numbers of the windows that move with the point, and of those that stay. -/
theorem block_moving : ∀ t : Fin cfg0.N, win0_0.index t = ![t.val, 0] ∧ win0_8.index t = ![t.val, 0] ∧ win0_9.index t = ![t.val, 0]
    ∧ win0_10.index t = ![t.val, 0] := by decide +kernel

theorem block_fixed : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-! What the operands hold when the call starts. -/

theorem V_x : V m c main_v48 = shapeCast S16384x1024 (argX m c) shapeCasts_S1x16384x1024_S16384x1024 := by
  simp only [V, List.flatten_cons, List.flatten_nil, List.cons_append, List.nil_append]
  entry_read
  rfl

theorem V_sh : V m c main_v45 = shapeCast S1x1024 (argSh m c) shapeCasts_S1x1x1024_S1x1024 := by
  simp only [V, List.flatten_cons, List.flatten_nil, List.cons_append, List.nil_append]
  entry_read
  rfl

theorem V_sc : V m c main_v46 = shapeCast S1x1024 (argSc m c) shapeCasts_S1x1x1024_S1x1024 := by
  simp only [V, List.flatten_cons, List.flatten_nil, List.cons_append, List.nil_append]
  entry_read
  rfl

theorem V_ng : V m c main_v47 = shapeCast S1x1024 (argNg m c) shapeCasts_S1024_S1x1024 := by
  simp only [V, List.flatten_cons, List.flatten_nil, List.cons_append, List.nil_append]
  entry_read
  rfl

theorem V_w : V m c main_v1 = truncf (F := Ideal) .bf16 (extractStridedSlice S1024x3072 ![0, 0] (argW m c) slices_S1024x6148_S1024x3072_0_0) bitsLt_bf16_f32 := by
  simp only [V, List.flatten_cons, List.flatten_nil, List.cons_append, List.nil_append]
  entry_read
  rfl

theorem V_wf : V m c main_v5 = truncf (F := Ideal) .bf16 (pad S8x1024 ![0, 0] ![4, 0] ![0, 0] (transpose S4x1024 [1, 0] (extractStridedSlice S1024x4 ![0, 3072] (argW m c) slices_S1024x6148_S1024x4_0_3072) transposes_S1024x4_S4x1024_1_0) (sitofp (F := Ideal) .f32 (constantI S_ 32 0#32)) pads_S4x1024_S8x1024_040_000 h_S_) bitsLt_bf16_f32 := by
  simp only [V, List.flatten_cons, List.flatten_nil, List.cons_append, List.nil_append]
  entry_read
  rfl

theorem V_bf : V m c main_v7 = pad S8x1 ![0, 0] ![4, 0] ![0, 0] (shapeCast S4x1 (argBf m c) shapeCasts_S4_S4x1) (sitofp (F := Ideal) .f32 (constantI S_ 32 0#32)) pads_S4x1_S8x1_040_000 h_S_ := by
  simp only [V, List.flatten_cons, List.flatten_nil, List.cons_append, List.nil_append]
  entry_read
  rfl

theorem V_wg : V m c main_v9 = truncf (F := Ideal) .bf16 (extractStridedSlice S1024x3072 ![0, 3076] (argW m c) slices_S1024x6148_S1024x3072_0_3076) bitsLt_bf16_f32 := by
  simp only [V, List.flatten_cons, List.flatten_nil, List.cons_append, List.nil_append]
  entry_read
  rfl

/-- The angle of each position and each of the eight frequencies. -/
def angles : FVec Ideal S16384x8 .f32 :=
  mulf (broadcastInDim S16384x8 ![0, 1] bcast_S16384x1_S16384x8_0_1 (broadcastInDim S16384x1 ![0] bcast_S16384_S16384x1_0 (sitofp .f32 (iotaInDim S16384 32 0))))
    (broadcastInDim S16384x8 ![0, 1] bcast_S1x8_S16384x8_0_1 (broadcastInDim S1x8 ![1] bcast_S8_S1x8_1 (Host.powf (broadcastInDim S8 ![] bcast_S_S8 (constant S_ .f32 0x48F42400#32))
      (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
        (broadcastInDim S8 ![] bcast_S_S8 (constant S_ .f32 0x41800000#32))))))

/-- Three pieces of a head side by side, and the head twice. -/
def twice (a b : FVec Ideal S16384x8 .f32) (d : FVec Ideal S16384x48 .f32) : FVec Ideal S16384x128 .f32 :=
  shapeCast S16384x128 (broadcastInDim S1x16384x2x64 ![0, 1, 2, 3] bcast_S1x16384x1x64_S1x16384x2x64_0_1_2_3 (shapeCast S1x16384x1x64
    (concatenate S16384x64 1 [⟨S16384x8, a⟩, ⟨S16384x8, b⟩, ⟨S16384x48, d⟩] concatenates_S16384x8_S16384x8_S16384x48_S16384x64_d1) shapeCasts_S16384x64_S1x16384x1x64)) shapeCasts_S1x16384x2x64_S16384x128

/-- What the buffers hold once the angles are computed, and the operations that remain: the tables. -/
def early : Valuation τ sig (Elt Ideal) :=
  StableHlo.after (List.flatten [hostOps0, hostOps0_1, hostOps0_2, hostOps0_3, hostOps0_4.take 23]) (fun b => m (c, b))

theorem early_angles : early m c (Proc.devRef .tc main_v26) = angles := by
  simp only [early, List.take_succ_cons, List.take_zero, List.flatten_cons, List.flatten_nil, List.cons_append, List.nil_append]
  entry_read
  rfl

theorem V_late (b : Ref sig .tc) : V m c b = StableHlo.after (hostOps0_4.drop 23) (early m c) (Proc.devRef .tc b) := rfl

theorem V_cos : V m c main_v38 = twice (Host.cos angles) (Host.cos angles) (broadcastInDim S16384x48 ![] bcast_S_S16384x48 (constant S_ .f32 0x3F800000#32)) := by
  rw [V_late, ← early_angles m c]
  generalize early m c = σ
  rfl

theorem V_lo : V m c main_v41 = twice (Host.negf (Host.sin angles)) (broadcastInDim S16384x8 ![] bcast_S_S16384x8 (constant S_ .f32 0x00000000#32)) (broadcastInDim S16384x48 ![] bcast_S_S16384x48 (constant S_ .f32 0x00000000#32)) := by
  rw [V_late, ← early_angles m c]
  generalize early m c = σ
  rfl

theorem V_hi : V m c main_v44 = twice (broadcastInDim S16384x8 ![] bcast_S_S16384x8 (constant S_ .f32 0x00000000#32)) (Host.sin angles) (broadcastInDim S16384x48 ![] bcast_S_S16384x48 (constant S_ .f32 0x00000000#32)) := by
  rw [V_late, ← early_angles m c]
  generalize early m c = σ
  rfl

theorem twice_apply (a b : FVec Ideal S16384x8 .f32) (d : FVec Ideal S16384x48 .f32) (R : Fin 16384) (l : Fin 128) :
    twice a b d (ix2 R l) = if h : l.val % 64 < 8 then a (ix2 R ⟨l.val % 64, h⟩) else if h : l.val % 64 < 16 then b (ix2 R ⟨l.val % 64 - 8, by omega⟩)
      else d (ix2 R ⟨l.val % 64 - 16, by omega⟩) := by
  pointwise [twice]
  split
  · rfl
  · by_cases h : l.val % 64 < 16
    · rw [dif_pos (show l.val % 64 - 8 < 8 by omega), dif_pos h]
    · rw [dif_neg (show ¬ l.val % 64 - 8 < 8 by omega), dif_neg h]
      exact congrArg (fun e => d (ix2 R e)) (Fin.ext (by show l.val % 64 - 8 - 8 = l.val % 64 - 16; omega))

theorem angles_apply (R : Fin 16384) (d : Fin 8) : angles (ix2 R d) = Rotary.angle R.val d.val := by
  pointwise [angles, Rotary.angle]

/-! The blocks of a point, element by element. -/

theorem blk_x (t : Fin cfg0.N) (r : Fin 512) (k : Fin 1024) (R : Fin 16384) (hR : R.val = 512 * t.val + r.val) :
    iblk m c 0 t (ix2 r k) = argX m c (ix3 0 R k) := by
  have hi := (block_moving t).1
  blk_simp [iblk]
  rw [V_x]
  pointwise
  blk_ext [hi, hR]

theorem blk_sh (t : Fin cfg0.N) (k : Fin 1024) : iblk m c 1 t (ix2 0 k) = argSh m c (ix3 0 0 k) := by
  have hi := block_fixed t
  blk_simp [iblk]
  rw [V_sh]
  pointwise
  blk_ext [hi]

theorem blk_sc (t : Fin cfg0.N) (k : Fin 1024) : iblk m c 2 t (ix2 0 k) = argSc m c (ix3 0 0 k) := by
  have hi := block_fixed t
  blk_simp [iblk]
  rw [V_sc]
  pointwise
  blk_ext [hi]

theorem blk_ng (t : Fin cfg0.N) (k : Fin 1024) : iblk m c 3 t (ix2 0 k) = argNg m c (ix1 k) := by
  have hi := block_fixed t
  blk_simp [iblk]
  rw [V_ng]
  pointwise
  blk_ext [hi]

theorem blk_w (t : Fin cfg0.N) (k : Fin 1024) (n : Fin 3072) (j : Fin 6148) (hj : j.val = n.val) : iblk m c 4 t (ix2 k n) = argW m c (ix2 k j) := by
  have hi := block_fixed t
  blk_simp [iblk]
  rw [V_w]
  pointwise
  blk_ext [hi, hj]

theorem blk_wg (t : Fin cfg0.N) (k : Fin 1024) (n : Fin 3072) (j : Fin 6148) (hj : j.val = 3076 + n.val) : iblk m c 7 t (ix2 k n) = argW m c (ix2 k j) := by
  have hi := block_fixed t
  blk_simp [iblk]
  rw [V_wg]
  pointwise
  blk_ext [hi, hj]

theorem blk_wf (t : Fin cfg0.N) (e : Fin 8) (k : Fin 1024) : iblk m c 5 t (ix2 e k) = if h : e.val < 4 then argW m c (ix2 k ⟨3072 + e.val, by omega⟩) else (0 : EReal) := by
  have hi := block_fixed t
  blk_simp [iblk]
  rw [V_wf]
  have h0 : (((View.whole main_v5).slice (win0_5.rect t)).emb (ix2 e k) 0).val = e.val := by blk_simp [hi]
  pointwise
  by_cases h : e.val < 4
  · rw [dif_pos (by rw [h0]; exact h), dif_pos h]
    blk_ext [hi, h0]
  · rw [dif_neg (by rw [h0]; exact h), dif_neg h]
    exact Rotary.pad_value

theorem blk_bf (t : Fin cfg0.N) (e : Fin 8) : iblk m c 6 t (ix2 e 0) = if h : e.val < 4 then argBf m c (ix1 ⟨e.val, h⟩) else (0 : EReal) := by
  have hi := block_fixed t
  blk_simp [iblk]
  rw [V_bf]
  have h0 : (((View.whole main_v7).slice (win0_6.rect t)).emb (ix2 e 0) 0).val = e.val := by blk_simp [hi]
  pointwise
  by_cases h : e.val < 4
  · rw [dif_pos (by rw [h0]; exact h), dif_pos h]
    blk_ext [hi, h0]
  · rw [dif_neg (by rw [h0]; exact h), dif_neg h]
    exact Rotary.pad_value

/-- A row of a table's block is a row of the table. -/
theorem blk_table (t : Fin cfg0.N) (r : Fin 512) (l : Fin 128) (R : Fin 16384) (hR : R.val = 512 * t.val + r.val) :
    iblk m c 8 t (ix2 r l) = V m c main_v38 (ix2 R l) ∧ iblk m c 9 t (ix2 r l) = V m c main_v41 (ix2 R l) ∧ iblk m c 10 t (ix2 r l) = V m c main_v44 (ix2 R l) := by
  have hi := block_moving t
  refine ⟨?_, ?_, ?_⟩
  · blk_simp [iblk]
    generalize V m c main_v38 = T
    blk_ext [hi, hR]
  · blk_simp [iblk]
    generalize V m c main_v41 = T
    blk_ext [hi, hR]
  · blk_simp [iblk]
    generalize V m c main_v44 = T
    blk_ext [hi, hR]

end Cert.ProjectIdeal

end
-- ==== Proof.ProjectRows.lean ====
/- One point of the projection, row by row: the hidden rows, the products' columns, the turned slabs, and what each result's block holds. -/
module

public import proofs.«01_k».proof.Proof.ProjectBlocks

@[expose] public section

set_option maxRecDepth 16384

noncomputable section

namespace Cert.ProjectIdeal

open Idealize.ShloMosaic Idealize.ShloMosaic.TcCoe Idealize.SL.Sem
open Cert.ProjectIdeal.Gen

/-! ## Over any operands -/

/-- The product of a block of hidden rows with 512 columns. -/
def prod (a : FVec Ideal S512x1024 .bf16) (w : FVec Ideal S1024x512 .bf16) : FVec Ideal S512x512 .f32 :=
  matmul dot_S512x1024_S1024x512_S512x512_1_0_0_1_n_n none a (shapeCast S1024x512 w shapeCasts_S1024x512_S1024x512) (constant S512x512 .f32 0x00000000#32)

theorem prod_apply (a : FVec Ideal S512x1024 .bf16) (w : FVec Ideal S1024x512 .bf16) (r l : Fin 512) :
    prod a w (ix2 r l) = ∑ k : Fin 1024, (a (ix2 r k) : EReal) * w (ix2 k l) := by
  pointwise [prod]

/-- The turn of a slab of 128 columns: three products with the tables. -/
def slab (Y C H L : FVec Ideal S512x128 .f32) : FVec Ideal S512x128 .f32 :=
  addf (addf (mulf Y C) (mulf (dynamicRotate 1 8#32 none Y rotates_S512x128_d1) H)) (mulf (dynamicRotate 1 120#32 none Y rotates_S512x128_d1) L)

theorem slab_apply (Y C H L : FVec Ideal S512x128 .f32) (r : Fin 512) (c s y : ℕ → EReal) (b : ℕ) (hb : b % 64 = 0)
    (hY : ∀ l : Fin 128, Y (ix2 r l) = y (b + l.val)) (hC : ∀ l : Fin 128, C (ix2 r l) = Rotary.table c l.val)
    (hH : ∀ l : Fin 128, H (ix2 r l) = Rotary.tableBelow s l.val) (hL : ∀ l : Fin 128, L (ix2 r l) = Rotary.tableAbove s l.val) (l : Fin 128) :
    slab Y C H L (ix2 r l) = Rotary.turn c s y (b + l.val) := by
  rw [← Rotary.turn_slab c s y b l.val hb l.isLt]
  pointwise [slab]
  rw [hC, hH, hL, hY, hY, hY]
  refine congrArg₂ (· + ·) (congrArg₂ (· + ·) rfl (congrArg (fun n => y (b + n) * _) ?_)) (congrArg (fun n => y (b + n) * _) ?_)
  · show (l.val + 128 - 8) % 128 = (l.val + 120) % 128
    omega
  · show (l.val + 128 - 120) % 128 = (l.val + 8) % 128
    omega

/-- The mean of a slab over the 256 rows of each of two blocks. -/
theorem mean_apply (v : FVec Ideal S512x128 .f32) (i : Fin 2) (l : Fin 128) :
    k0_pay51 (F := Ideal) v (ix3 0 i l) = (∑ j : Fin 256, (v (ix2 ⟨256 * i.val + j.val, by omega⟩ l) : EReal)) * Ideal.ofBits .f32 998244352#32 := by
  pointwise [k0_pay51]
  refine congrArg (· * _) (Finset.sum_congr rfl fun j _ => congrArg v ?_)
  exact (ix2_inj ..).2 ⟨Fin.ext (by show i.val * 256 + j.val = 256 * i.val + j.val; omega), rfl⟩

variable (m : (ℓ : Loc nD τ sig) → Buf (Elt Ideal) ℓ) (c : Dev nD)

/-- Row `R` of the hidden activations, and the projection's matrix. -/
def hrow (R : Fin 16384) : Fin 1024 → EReal :=
  Moe.hidden (fun k => argX m c (ix3 0 R k)) (fun k => argNg m c (ix1 k)) (fun k => argSc m c (ix3 0 0 k)) (fun k => argSh m c (ix3 0 0 k))
def mat : Fin 1024 → Fin 6148 → EReal := fun k j => argW m c (ix2 k j)

variable (t : Fin cfg0.N)

/-- A value of the point, at the blocks of the point. -/
abbrev at_ {α : Type} (f : Vec Ideal S512x1024 .f32 → Vec Ideal S1x1024 .f32 → Vec Ideal S1x1024 .f32 → Vec Ideal S1x1024 .f32 → Vec Ideal S1024x3072 .bf16 →
    Vec Ideal S8x1024 .bf16 → Vec Ideal S8x1 .f32 → Vec Ideal S1024x3072 .bf16 → Vec Ideal S512x128 .f32 → Vec Ideal S512x128 .f32 → Vec Ideal S512x128 .f32 → α) : α :=
  f (iblk m c 0 t) (iblk m c 1 t) (iblk m c 2 t) (iblk m c 3 t) (iblk m c 4 t) (iblk m c 5 t) (iblk m c 6 t) (iblk m c 7 t) (iblk m c 8 t) (iblk m c 9 t) (iblk m c 10 t)

variable (r : Fin 512) (R : Fin 16384) (hR : R.val = 512 * t.val + r.val)
include hR

theorem hidden_block (k : Fin 1024) : at_ m c t (k0_pay80 (F := Ideal)) (ix2 r k) = hrow m c R k := by
  pointwise [at_, k0_pay80, k0_pay3]
  simp only [blk_x m c t r _ R hR, blk_ng m c t, blk_sc m c t, blk_sh m c t]
  rfl

omit hR in
/-- The tables' rows. -/
theorem cos_apply (d : Fin 8) : Host.cos angles (ix2 R d) = Rotary.cosOf R.val d.val := by
  show FloatOps.cos (F := Ideal) (φ := FTy.f32) (angles (ix2 R d)) = _
  rw [angles_apply]
  rfl

omit hR in
theorem sin_apply (d : Fin 8) : Host.sin angles (ix2 R d) = Rotary.sinOf R.val d.val := by
  show FloatOps.sin (F := Ideal) (φ := FTy.f32) (angles (ix2 R d)) = _
  rw [angles_apply]
  rfl

theorem cos_block (l : Fin 128) : at_ m c t (k0_pay81 (F := Ideal)) (ix2 r l) = Rotary.table (Rotary.cosOf R.val) l.val := by
  pointwise [at_, k0_pay81, k0_pay4]
  rw [(blk_table m c t r l R hR).1, V_cos, twice_apply]
  unfold Rotary.table
  split
  · exact cos_apply R _
  · split
    · exact cos_apply R _
    · pointwise

theorem above_block (l : Fin 128) : at_ m c t (k0_pay82 (F := Ideal)) (ix2 r l) = Rotary.tableAbove (Rotary.sinOf R.val) l.val := by
  pointwise [at_, k0_pay82, k0_pay5]
  rw [(blk_table m c t r l R hR).2.1, V_lo, twice_apply]
  unfold Rotary.tableAbove
  split
  · exact congrArg (fun x : EReal => -x) (sin_apply R _)
  · split
    · pointwise
    · pointwise

theorem below_block (l : Fin 128) : at_ m c t (k0_pay83 (F := Ideal)) (ix2 r l) = Rotary.tableBelow (Rotary.sinOf R.val) l.val := by
  pointwise [at_, k0_pay83, k0_pay6]
  rw [(blk_table m c t r l R hR).2.2, V_hi, twice_apply]
  unfold Rotary.tableBelow
  split
  · pointwise
  · split
    · exact sin_apply R _
    · pointwise

/-- Column `off + l` of the projection, from a block of the matrix's columns. -/
theorem prod_col (w : FVec Ideal S1024x512 .bf16) (off : ℕ) (ho : off + 512 ≤ 6148)
    (hw : ∀ (k : Fin 1024) (l : Fin 512) (j : Fin 6148), j.val = off + l.val → w (ix2 k l) = argW m c (ix2 k j)) (l : Fin 512) :
    prod (at_ m c t (k0_pay80 (F := Ideal))) w (ix2 r l) = Rotary.col (hrow m c R) (mat m c) (off + l.val) := by
  rw [prod_apply, Rotary.col_of _ _ _ ⟨off + l.val, by omega⟩ rfl]
  refine Finset.sum_congr rfl fun k _ => ?_
  rw [hidden_block m c t r R hR k, hw k l ⟨off + l.val, by omega⟩ rfl]
  rfl

/-! Six loads of each of the two matrices: the columns from `512 q` on. -/

theorem w_0 (l : Fin 512) : prod (at_ m c t (k0_pay80 (F := Ideal))) (View.ld (iblk m c 4 t) r0_3) (ix2 r l) = Rotary.col (hrow m c R) (mat m c) (0 + l.val) := by
  refine prod_col m c t r R hR _ 0 (by norm_num) (fun k l j hj => ?_) l
  pointwise
  exact blk_w m c t k _ j (hj.trans (Nat.zero_add _))

theorem w_1 (l : Fin 512) : prod (at_ m c t (k0_pay80 (F := Ideal))) (View.ld (iblk m c 4 t) r0_8) (ix2 r l) = Rotary.col (hrow m c R) (mat m c) (512 + l.val) := by
  refine prod_col m c t r R hR _ 512 (by norm_num) (fun k l j hj => ?_) l
  pointwise
  exact blk_w m c t k _ j hj

theorem w_2 (l : Fin 512) : prod (at_ m c t (k0_pay80 (F := Ideal))) (View.ld (iblk m c 4 t) r0_17) (ix2 r l) = Rotary.col (hrow m c R) (mat m c) (1024 + l.val) := by
  refine prod_col m c t r R hR _ 1024 (by norm_num) (fun k l j hj => ?_) l
  pointwise
  exact blk_w m c t k _ j hj

theorem w_3 (l : Fin 512) : prod (at_ m c t (k0_pay80 (F := Ideal))) (View.ld (iblk m c 4 t) r0_22) (ix2 r l) = Rotary.col (hrow m c R) (mat m c) (1536 + l.val) := by
  refine prod_col m c t r R hR _ 1536 (by norm_num) (fun k l j hj => ?_) l
  pointwise
  exact blk_w m c t k _ j hj

theorem w_4 (l : Fin 512) : prod (at_ m c t (k0_pay80 (F := Ideal))) (View.ld (iblk m c 4 t) r0_31) (ix2 r l) = Rotary.col (hrow m c R) (mat m c) (2048 + l.val) := by
  refine prod_col m c t r R hR _ 2048 (by norm_num) (fun k l j hj => ?_) l
  pointwise
  exact blk_w m c t k _ j hj

theorem w_5 (l : Fin 512) : prod (at_ m c t (k0_pay80 (F := Ideal))) (View.ld (iblk m c 4 t) r0_32) (ix2 r l) = Rotary.col (hrow m c R) (mat m c) (2560 + l.val) := by
  refine prod_col m c t r R hR _ 2560 (by norm_num) (fun k l j hj => ?_) l
  pointwise
  exact blk_w m c t k _ j hj

theorem wg_0 (l : Fin 512) : prod (at_ m c t (k0_pay80 (F := Ideal))) (View.ld (iblk m c 7 t) r0_3) (ix2 r l) = Rotary.col (hrow m c R) (mat m c) (3076 + l.val) := by
  refine prod_col m c t r R hR _ 3076 (by norm_num) (fun k l j hj => ?_) l
  pointwise
  exact blk_wg m c t k _ j hj

theorem wg_1 (l : Fin 512) : prod (at_ m c t (k0_pay80 (F := Ideal))) (View.ld (iblk m c 7 t) r0_8) (ix2 r l) = Rotary.col (hrow m c R) (mat m c) (3588 + l.val) := by
  refine prod_col m c t r R hR _ 3588 (by norm_num) (fun k l j hj => ?_) l
  pointwise
  exact blk_wg m c t k _ j (by rw [hj]; show _ = 3076 + (512 + l.val); omega)

theorem wg_2 (l : Fin 512) : prod (at_ m c t (k0_pay80 (F := Ideal))) (View.ld (iblk m c 7 t) r0_17) (ix2 r l) = Rotary.col (hrow m c R) (mat m c) (4100 + l.val) := by
  refine prod_col m c t r R hR _ 4100 (by norm_num) (fun k l j hj => ?_) l
  pointwise
  exact blk_wg m c t k _ j (by rw [hj]; show _ = 3076 + (1024 + l.val); omega)

theorem wg_3 (l : Fin 512) : prod (at_ m c t (k0_pay80 (F := Ideal))) (View.ld (iblk m c 7 t) r0_22) (ix2 r l) = Rotary.col (hrow m c R) (mat m c) (4612 + l.val) := by
  refine prod_col m c t r R hR _ 4612 (by norm_num) (fun k l j hj => ?_) l
  pointwise
  exact blk_wg m c t k _ j (by rw [hj]; show _ = 3076 + (1536 + l.val); omega)

theorem wg_4 (l : Fin 512) : prod (at_ m c t (k0_pay80 (F := Ideal))) (View.ld (iblk m c 7 t) r0_31) (ix2 r l) = Rotary.col (hrow m c R) (mat m c) (5124 + l.val) := by
  refine prod_col m c t r R hR _ 5124 (by norm_num) (fun k l j hj => ?_) l
  pointwise
  exact blk_wg m c t k _ j (by rw [hj]; show _ = 3076 + (2048 + l.val); omega)

theorem wg_5 (l : Fin 512) : prod (at_ m c t (k0_pay80 (F := Ideal))) (View.ld (iblk m c 7 t) r0_32) (ix2 r l) = Rotary.col (hrow m c R) (mat m c) (5636 + l.val) := by
  refine prod_col m c t r R hR _ 5636 (by norm_num) (fun k l j hj => ?_) l
  pointwise
  exact blk_wg m c t k _ j (by rw [hj]; show _ = 3076 + (2560 + l.val); omega)

/-! ## The results' blocks -/

/-- A slab of 128 columns of a product. -/
theorem part (w : FVec Ideal S1024x512 .bf16) (off : ℕ) (hp : ∀ l : Fin 512, prod (at_ m c t (k0_pay80 (F := Ideal))) w (ix2 r l) = Rotary.col (hrow m c R) (mat m c) (off + l.val))
    (o : ℕ) (ho : o + 128 ≤ 512) (hs : S512x512.Slices ![0, o] S512x128) (n : ℕ) (l : Fin 128) (hn : off + (o + l.val) = n) :
    extractStridedSlice S512x128 ![0, o] (prod (at_ m c t (k0_pay80 (F := Ideal))) w) hs (ix2 r l) = Rotary.col (hrow m c R) (mat m c) n := by
  rw [← hn]
  refine Eq.trans ?_ (hp ⟨o + l.val, by omega⟩)
  pointwise

/-- A turned slab, over the columns `y`. -/
theorem turned (y : ℕ → EReal) (w : FVec Ideal S512x128 .f32) (b : ℕ) (hb : b % 64 = 0) (hw : ∀ l : Fin 128, w (ix2 r l) = y (b + l.val)) (l : Fin 128) :
    slab w (at_ m c t (k0_pay81 (F := Ideal))) (at_ m c t (k0_pay83 (F := Ideal))) (at_ m c t (k0_pay82 (F := Ideal))) (ix2 r l)
      = Rotary.turn (Rotary.cosOf R.val) (Rotary.sinOf R.val) y (b + l.val) :=
  slab_apply _ _ _ _ r _ _ y b hb hw (cos_block m c t r R hR) (below_block m c t r R hR) (above_block m c t r R hR) l

/-- The keys, all sixteen heads. -/
def keys : ℕ → EReal := Rotary.heads (Rotary.cosOf R.val) (Rotary.sinOf R.val) (fun n => Rotary.col (hrow m c R) (mat m c) (1024 + n))
def queries : ℕ → EReal := Rotary.heads (Rotary.cosOf R.val) (Rotary.sinOf R.val) (Rotary.col (hrow m c R) (mat m c))

theorem k_high (w : FVec Ideal S512x128 .f32) (b : ℕ) (hb : b % 64 = 0) (h5 : 512 ≤ b) (hw : ∀ l : Fin 128, w (ix2 r l) = Rotary.col (hrow m c R) (mat m c) (1024 + (b + l.val))) (l : Fin 128) :
    slab w (at_ m c t (k0_pay81 (F := Ideal))) (at_ m c t (k0_pay83 (F := Ideal))) (at_ m c t (k0_pay82 (F := Ideal))) (ix2 r l) = keys m c R (b + l.val) :=
  (turned m c t r R hR (fun n => Rotary.col (hrow m c R) (mat m c) (1024 + n)) w b hb hw l).trans (Rotary.heads_high _ _ _ _ (by omega)).symm

theorem q_high (w : FVec Ideal S512x128 .f32) (b : ℕ) (hb : b % 64 = 0) (h5 : 512 ≤ b) (hw : ∀ l : Fin 128, w (ix2 r l) = Rotary.col (hrow m c R) (mat m c) (b + l.val)) (l : Fin 128) :
    slab w (at_ m c t (k0_pay81 (F := Ideal))) (at_ m c t (k0_pay83 (F := Ideal))) (at_ m c t (k0_pay82 (F := Ideal))) (ix2 r l) = queries m c R (b + l.val) :=
  (turned m c t r R hR _ w b hb hw l).trans (Rotary.heads_high _ _ _ _ (by omega)).symm

theorem v_rows_block (n : Fin 1024) : at_ m c t (out0_15 (F := Ideal)) (ix2 r n) = Rotary.col (hrow m c R) (mat m c) (2048 + n.val) := by
  unfold at_ out0_15
  canon_tiles x h
  all_goals idx_vars x
  all_goals obtain rfl := Fin.ext h0
  · exact part m c t r R hR _ 2560 (w_5 m c t r R hR) 384 (by norm_num) slices_S512x512_o0_384_S512x128 _ x1 (by omega)
  · exact part m c t r R hR _ 2560 (w_5 m c t r R hR) 256 (by norm_num) slices_S512x512_o0_256_S512x128 _ x1 (by omega)
  · exact part m c t r R hR _ 2560 (w_5 m c t r R hR) 128 (by norm_num) slices_S512x512_o0_128_S512x128 _ x1 (by omega)
  · exact part m c t r R hR _ 2560 (w_5 m c t r R hR) 0 (by norm_num) slices_S512x512_o0_0_S512x128 _ x1 (by omega)
  · exact part m c t r R hR _ 2048 (w_4 m c t r R hR) 384 (by norm_num) slices_S512x512_o0_384_S512x128 _ x1 (by omega)
  · exact part m c t r R hR _ 2048 (w_4 m c t r R hR) 256 (by norm_num) slices_S512x512_o0_256_S512x128 _ x1 (by omega)
  · exact part m c t r R hR _ 2048 (w_4 m c t r R hR) 128 (by norm_num) slices_S512x512_o0_128_S512x128 _ x1 (by omega)
  · exact part m c t r R hR _ 2048 (w_4 m c t r R hR) 0 (by norm_num) slices_S512x512_o0_0_S512x128 _ x1 (by omega)

theorem k_rows_block (n : Fin 1024) : at_ m c t (out0_14 (F := Ideal)) (ix2 r n) = keys m c R n.val := by
  unfold at_ out0_14
  canon_tiles x h
  all_goals idx_vars x
  all_goals obtain rfl := Fin.ext h0
  all_goals rw [h1]
  · exact k_high m c t r R hR _ 896 (by norm_num) (by norm_num) (fun l => part m c t r R hR _ 1536 (w_3 m c t r R hR) 384 (by norm_num) slices_S512x512_o0_384_S512x128 _ l (by omega)) x1
  · exact k_high m c t r R hR _ 768 (by norm_num) (by norm_num) (fun l => part m c t r R hR _ 1536 (w_3 m c t r R hR) 256 (by norm_num) slices_S512x512_o0_256_S512x128 _ l (by omega)) x1
  · exact k_high m c t r R hR _ 640 (by norm_num) (by norm_num) (fun l => part m c t r R hR _ 1536 (w_3 m c t r R hR) 128 (by norm_num) slices_S512x512_o0_128_S512x128 _ l (by omega)) x1
  · exact k_high m c t r R hR _ 512 (by norm_num) (by norm_num) (fun l => part m c t r R hR _ 1536 (w_3 m c t r R hR) 0 (by norm_num) slices_S512x512_o0_0_S512x128 _ l (by omega)) x1
  · exact (part m c t r R hR _ 1024 (w_2 m c t r R hR) 384 (by norm_num) slices_S512x512_o0_384_S512x128 _ x1 (by omega)).trans (Rotary.heads_low _ _ (fun n => Rotary.col (hrow m c R) (mat m c) (1024 + n)) _ (by omega)).symm
  · exact (part m c t r R hR _ 1024 (w_2 m c t r R hR) 256 (by norm_num) slices_S512x512_o0_256_S512x128 _ x1 (by omega)).trans (Rotary.heads_low _ _ (fun n => Rotary.col (hrow m c R) (mat m c) (1024 + n)) _ (by omega)).symm
  · exact (part m c t r R hR _ 1024 (w_2 m c t r R hR) 128 (by norm_num) slices_S512x512_o0_128_S512x128 _ x1 (by omega)).trans (Rotary.heads_low _ _ (fun n => Rotary.col (hrow m c R) (mat m c) (1024 + n)) _ (by omega)).symm
  · exact (part m c t r R hR _ 1024 (w_2 m c t r R hR) 0 (by norm_num) slices_S512x512_o0_0_S512x128 _ x1 (by omega)).trans (Rotary.heads_low _ _ (fun n => Rotary.col (hrow m c R) (mat m c) (1024 + n)) _ (by omega)).symm

theorem qc_block (n : Fin 512) : at_ m c t (out0_18 (F := Ideal)) (ix2 r n) = queries m c R (512 + n.val) := by
  unfold at_ out0_18
  canon_tiles x h
  all_goals idx_vars x
  all_goals obtain rfl := Fin.ext h0
  all_goals rw [h1]
  · exact (q_high m c t r R hR _ 896 (by norm_num) (by norm_num) (fun l => part m c t r R hR _ 512 (w_1 m c t r R hR) 384 (by norm_num) slices_S512x512_o0_384_S512x128 _ l (by omega)) x1).trans (congrArg (queries m c R) (by omega))
  · exact (q_high m c t r R hR _ 768 (by norm_num) (by norm_num) (fun l => part m c t r R hR _ 512 (w_1 m c t r R hR) 256 (by norm_num) slices_S512x512_o0_256_S512x128 _ l (by omega)) x1).trans (congrArg (queries m c R) (by omega))
  · exact (q_high m c t r R hR _ 640 (by norm_num) (by norm_num) (fun l => part m c t r R hR _ 512 (w_1 m c t r R hR) 128 (by norm_num) slices_S512x512_o0_128_S512x128 _ l (by omega)) x1).trans (congrArg (queries m c R) (by omega))
  · exact (q_high m c t r R hR _ 512 (by norm_num) (by norm_num) (fun l => part m c t r R hR _ 512 (w_1 m c t r R hR) 0 (by norm_num) slices_S512x512_o0_0_S512x128 _ l (by omega)) x1)

omit hR in
/-- A slab times 1/8, in the layout of the result. -/
theorem scaled_apply (v : FVec Ideal S512x128 .f32) (l : Fin 128) : k0_pay28 (F := Ideal) v (ix3 0 r l) = (v (ix2 r l) : EReal) * Ideal.ofBits .f32 1040187392#32 := by
  pointwise [k0_pay28]

set_option maxHeartbeats 1000000 in
theorem qh_block (p : Fin 8) (l : Fin 128) : at_ m c t (out0_11 (F := Ideal)) (ix3 p r l) = queries m c R (128 * p.val + l.val) * Ideal.ofBits .f32 1040187392#32 := by
  have z : ((0 : Fin 1) : ℕ) = 0 := rfl
  unfold at_ out0_11
  canon_tiles x h
  all_goals idx_vars x
  all_goals obtain rfl := Fin.ext h1
  all_goals obtain rfl := Fin.ext h2
  all_goals rw [h0]
  all_goals obtain rfl : x0 = 0 := Subsingleton.elim _ _
  · exact (scaled_apply r _ _).trans (congrArg (· * _) ((q_high m c t r R hR _ 896 (by norm_num) (by norm_num) (fun l => part m c t r R hR _ 512 (w_1 m c t r R hR) 384 (by norm_num) slices_S512x512_o0_384_S512x128 _ l (by omega)) _).trans (congrArg (queries m c R) (by have := z; omega))))
  · exact (scaled_apply r _ _).trans (congrArg (· * _) ((q_high m c t r R hR _ 768 (by norm_num) (by norm_num) (fun l => part m c t r R hR _ 512 (w_1 m c t r R hR) 256 (by norm_num) slices_S512x512_o0_256_S512x128 _ l (by omega)) _).trans (congrArg (queries m c R) (by have := z; omega))))
  · exact (scaled_apply r _ _).trans (congrArg (· * _) ((q_high m c t r R hR _ 640 (by norm_num) (by norm_num) (fun l => part m c t r R hR _ 512 (w_1 m c t r R hR) 128 (by norm_num) slices_S512x512_o0_128_S512x128 _ l (by omega)) _).trans (congrArg (queries m c R) (by have := z; omega))))
  · exact (scaled_apply r _ _).trans (congrArg (· * _) ((q_high m c t r R hR _ 512 (by norm_num) (by norm_num) (fun l => part m c t r R hR _ 512 (w_1 m c t r R hR) 0 (by norm_num) slices_S512x512_o0_0_S512x128 _ l (by omega)) _).trans (congrArg (queries m c R) (by have := z; omega))))
  · exact (scaled_apply r _ _).trans (congrArg (· * _) ((part m c t r R hR _ 0 (w_0 m c t r R hR) 384 (by norm_num) slices_S512x512_o0_384_S512x128 (128 * (3 + ((0 : Fin 1) : ℕ)) + l.val) l (by have := z; omega)).trans (Rotary.heads_low _ _ (Rotary.col (hrow m c R) (mat m c)) _ (by have := z; omega)).symm))
  · exact (scaled_apply r _ _).trans (congrArg (· * _) ((part m c t r R hR _ 0 (w_0 m c t r R hR) 256 (by norm_num) slices_S512x512_o0_256_S512x128 (128 * (2 + ((0 : Fin 1) : ℕ)) + l.val) l (by have := z; omega)).trans (Rotary.heads_low _ _ (Rotary.col (hrow m c R) (mat m c)) _ (by have := z; omega)).symm))
  · exact (scaled_apply r _ _).trans (congrArg (· * _) ((part m c t r R hR _ 0 (w_0 m c t r R hR) 128 (by norm_num) slices_S512x512_o0_128_S512x128 (128 * (1 + ((0 : Fin 1) : ℕ)) + l.val) l (by have := z; omega)).trans (Rotary.heads_low _ _ (Rotary.col (hrow m c R) (mat m c)) _ (by have := z; omega)).symm))
  · exact (scaled_apply r _ _).trans (congrArg (· * _) ((part m c t r R hR _ 0 (w_0 m c t r R hR) 0 (by norm_num) slices_S512x512_o0_0_S512x128 (128 * ((0 : Fin 1) : ℕ) + l.val) l (by have := z; omega)).trans (Rotary.heads_low _ _ (Rotary.col (hrow m c R) (mat m c)) _ (by have := z; omega)).symm))

omit hR in
/-- The gate of a product. -/
theorem gate_apply (a : FVec Ideal S512x1024 .bf16) (w : FVec Ideal S1024x512 .bf16) (l : Fin 512) : k0_pay1 (F := Ideal) a w (ix2 r l) = Ideal.logistic (prod a w (ix2 r l)) := by
  pointwise [k0_pay1, prod]

theorem gates_block (n : Fin 3072) : at_ m c t (out0_17 (F := Ideal)) (ix2 r n) = Ideal.logistic (Rotary.col (hrow m c R) (mat m c) (3076 + n.val)) := by
  unfold at_ out0_17
  canon_tiles x h
  all_goals idx_vars x
  all_goals obtain rfl := Fin.ext h0
  · exact (gate_apply r _ _ x1).trans (congrArg Ideal.logistic ((wg_5 m c t r R hR x1).trans (congrArg (Rotary.col (hrow m c R) (mat m c)) (by omega))))
  · exact (gate_apply r _ _ x1).trans (congrArg Ideal.logistic ((wg_4 m c t r R hR x1).trans (congrArg (Rotary.col (hrow m c R) (mat m c)) (by omega))))
  · exact (gate_apply r _ _ x1).trans (congrArg Ideal.logistic ((wg_3 m c t r R hR x1).trans (congrArg (Rotary.col (hrow m c R) (mat m c)) (by omega))))
  · exact (gate_apply r _ _ x1).trans (congrArg Ideal.logistic ((wg_2 m c t r R hR x1).trans (congrArg (Rotary.col (hrow m c R) (mat m c)) (by omega))))
  · exact (gate_apply r _ _ x1).trans (congrArg Ideal.logistic ((wg_1 m c t r R hR x1).trans (congrArg (Rotary.col (hrow m c R) (mat m c)) (by omega))))
  · exact (gate_apply r _ _ x1).trans (congrArg Ideal.logistic ((wg_0 m c t r R hR x1).trans (congrArg (Rotary.col (hrow m c R) (mat m c)) (by omega))))

/-- The forget gate's argument: four heads, and four rows of padding. -/
def forget (e : Fin 8) : EReal := if h : e.val < 4 then Rotary.col (hrow m c R) (mat m c) (3072 + e.val) + argBf m c (ix1 ⟨e.val, h⟩) else 0

omit hR in
theorem forget_apply (a : FVec Ideal S512x1024 .bf16) (w : FVec Ideal S8x1024 .bf16) (b : FVec Ideal S8x1 .f32) (e : Fin 8) (r : Fin 512) :
    k0_pay75 (F := Ideal) (k0_pay74 a w) b (ix2 e r) = Rotary.logSigmoid ((∑ k : Fin 1024, (w (ix2 e k) : EReal) * a (ix2 r k)) + b (ix2 e 0)) := by
  pointwise [k0_pay75, k0_pay74, Rotary.logSigmoid]
  rfl

theorem lf_block (e : Fin 8) : at_ m c t (out0_16 (F := Ideal)) (ix2 e r) = Rotary.logSigmoid (forget m c R e) := by
  unfold at_ out0_16
  canon_tiles x h
  all_goals idx_vars x
  all_goals obtain rfl := Fin.ext h0
  all_goals obtain rfl := Fin.ext h1
  refine (forget_apply _ _ _ e r).trans (congrArg Rotary.logSigmoid ?_)
  rw [show (View.ld (iblk m c 6 t) r0_34) (ix2 e 0) = iblk m c 6 t (ix2 e 0) by pointwise, blk_bf]
  unfold forget
  by_cases h : e.val < 4
  · rw [dif_pos h, dif_pos h, Rotary.col_of _ _ _ ⟨3072 + e.val, by omega⟩ rfl]
    refine congrArg (· + _) (Finset.sum_congr rfl fun k _ => ?_)
    rw [show (View.ld (iblk m c 5 t) r0_33) (ix2 e k) = iblk m c 5 t (ix2 e k) by pointwise, blk_wf, dif_pos h]
    exact (congrArg (_ * ·) (hidden_block m c t r R hR k)).trans (mul_comm _ _)
  · rw [dif_neg h, dif_neg h, add_zero]
    refine Finset.sum_eq_zero fun k _ => ?_
    rw [show (View.ld (iblk m c 5 t) r0_33) (ix2 e k) = iblk m c 5 t (ix2 e k) by pointwise, blk_wf, dif_neg h]
    exact zero_mul _

omit hR in
theorem kmean_block (i : Fin 2) (n : Fin 512) (Rj : Fin 256 → Fin 16384) (hRj : ∀ j, (Rj j).val = 512 * t.val + (256 * i.val + j.val)) :
    at_ m c t (out0_19 (F := Ideal)) (ix3 0 i n) = (∑ j : Fin 256, keys m c (Rj j) (512 + n.val)) * Ideal.ofBits .f32 998244352#32 := by
  unfold at_ out0_19
  canon_tiles x h
  all_goals idx_vars x
  all_goals obtain rfl := Fin.ext h1
  all_goals rw [h2]
  all_goals obtain rfl : x0 = 0 := Subsingleton.elim _ _
  · exact (mean_apply _ i x2).trans (congrArg (· * _) (Finset.sum_congr rfl fun j _ => (k_high m c t ⟨256 * i.val + j.val, by omega⟩ (Rj j) (hRj j) _ 896 (by norm_num) (by norm_num) (fun l => part m c t ⟨256 * i.val + j.val, by omega⟩ (Rj j) (hRj j) _ 1536 (w_3 m c t ⟨256 * i.val + j.val, by omega⟩ (Rj j) (hRj j)) 384 (by norm_num) slices_S512x512_o0_384_S512x128 _ l (by omega)) x2).trans (congrArg (keys m c (Rj j)) (by omega))))
  · exact (mean_apply _ i x2).trans (congrArg (· * _) (Finset.sum_congr rfl fun j _ => (k_high m c t ⟨256 * i.val + j.val, by omega⟩ (Rj j) (hRj j) _ 768 (by norm_num) (by norm_num) (fun l => part m c t ⟨256 * i.val + j.val, by omega⟩ (Rj j) (hRj j) _ 1536 (w_3 m c t ⟨256 * i.val + j.val, by omega⟩ (Rj j) (hRj j)) 256 (by norm_num) slices_S512x512_o0_256_S512x128 _ l (by omega)) x2).trans (congrArg (keys m c (Rj j)) (by omega))))
  · exact (mean_apply _ i x2).trans (congrArg (· * _) (Finset.sum_congr rfl fun j _ => (k_high m c t ⟨256 * i.val + j.val, by omega⟩ (Rj j) (hRj j) _ 640 (by norm_num) (by norm_num) (fun l => part m c t ⟨256 * i.val + j.val, by omega⟩ (Rj j) (hRj j) _ 1536 (w_3 m c t ⟨256 * i.val + j.val, by omega⟩ (Rj j) (hRj j)) 128 (by norm_num) slices_S512x512_o0_128_S512x128 _ l (by omega)) x2).trans (congrArg (keys m c (Rj j)) (by omega))))
  · exact (mean_apply _ i x2).trans (congrArg (· * _) (Finset.sum_congr rfl fun j _ => (k_high m c t ⟨256 * i.val + j.val, by omega⟩ (Rj j) (hRj j) _ 512 (by norm_num) (by norm_num) (fun l => part m c t ⟨256 * i.val + j.val, by omega⟩ (Rj j) (hRj j) _ 1536 (w_3 m c t ⟨256 * i.val + j.val, by omega⟩ (Rj j) (hRj j)) 0 (by norm_num) slices_S512x512_o0_0_S512x128 _ l (by omega)) x2)))

end Cert.ProjectIdeal

end
-- ==== Proof.ProjectOut.lean ====
/- The projection's result arrays at an index: each is written block by block, and the block of a row is the one the row's point writes back. -/
module

public import proofs.«01_k».proof.Proof.ProjectRows

@[expose] public section

set_option maxRecDepth 16384

noncomputable section

namespace Cert.ProjectIdeal

open Idealize.ShloMosaic Idealize.ShloMosaic.TcCoe Idealize.SL.Sem
open Cert.ProjectIdeal.Gen Cert.ProjectIdeal.Value

variable (m : (ℓ : Loc nD τ sig) → Buf (Elt Ideal) ℓ) (c : Dev nD)

/-- Point `t` writes the results' blocks numbered `t`, -/
theorem out_blocks : ∀ t : Fin cfg0.N, win0_11.index t = ![0, t.val, 0] ∧ win0_14.index t = ![t.val, 0] ∧ win0_15.index t = ![t.val, 0]
    ∧ win0_16.index t = ![0, t.val] ∧ win0_17.index t = ![t.val, 0] ∧ win0_18.index t = ![t.val, 0] ∧ win0_19.index t = ![t.val, 0, 0] := by
  decide +kernel

/-- and every point writes back. -/
theorem out_flush : ∀ t : Fin cfg0.N, (cfg0.win 11).flush t = true ∧ (cfg0.win 14).flush t = true ∧ (cfg0.win 15).flush t = true
    ∧ (cfg0.win 16).flush t = true ∧ (cfg0.win 17).flush t = true ∧ (cfg0.win 18).flush t = true ∧ (cfg0.win 19).flush t = true := by
  decide +kernel

/-- The seven result arrays after the last point. -/
def outQh : FVec Ideal S8x16384x128 .bf16 := (dats m 0 c).arrAt 11 cfg0.N
def outK : FVec Ideal S16384x1024 .f32 := (dats m 0 c).arrAt 14 cfg0.N
def outV : FVec Ideal S16384x1024 .f32 := (dats m 0 c).arrAt 15 cfg0.N
def outLf : FVec Ideal S8x16384 .f32 := (dats m 0 c).arrAt 16 cfg0.N
def outGates : FVec Ideal S16384x3072 .f32 := (dats m 0 c).arrAt 17 cfg0.N
def outQc : FVec Ideal S16384x512 .f32 := (dats m 0 c).arrAt 18 cfg0.N
def outMean : FVec Ideal S32x2x512 .f32 := (dats m 0 c).arrAt 19 cfg0.N

/-- The run leaves them. -/
theorem run_outs (ρ : Dev nD → PrngReg) : θ_run defs (onTc (τ := τ) (main (F := Ideal))) ⟨m, fun _ => 0, ρ⟩ fun r => ∀ c : Dev nD,
      r.2.mem ((c : Thread nD τ).loc main_v49_0) = outQh m c
      ∧ r.2.mem ((c : Thread nD τ).loc main_v49_3) = outK m c
      ∧ r.2.mem ((c : Thread nD τ).loc main_v49_4) = outV m c
      ∧ r.2.mem ((c : Thread nD τ).loc main_v49_5) = outLf m c
      ∧ r.2.mem ((c : Thread nD τ).loc main_v49_6) = outGates m c
      ∧ r.2.mem ((c : Thread nD τ).loc main_v49_7) = outQc m c
      ∧ r.2.mem ((c : Thread nD τ).loc main_v49_8) = outMean m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1, (h c).2.2.2.1, (h c).2.2.2.2.1, (h c).2.2.2.2.2.1, (h c).2.2.2.2.2.2.1, (h c).2.2.2.2.2.2.2.1,
    (h c).2.2.2.2.2.2.2.2.1, (h c).2.2.2.2.2.2.2.2.2⟩) (run_blocks (F := Ideal) m ρ)

/-- The point and the row of the block that hold row `R`. -/
theorem row_split (R : Fin 16384) : ∃ (t : Fin cfg0.N) (r : Fin 512), R.val = 512 * t.val + r.val :=
  ⟨⟨R.val / 512, (show R.val / 512 < 32 by omega)⟩, ⟨R.val % 512, by omega⟩, by simp only []; omega⟩

/-- The rows of keys, -/
theorem k_rows_at (R : Fin 16384) (n : Fin 1024) : outK m c (ix2 R n) = keys m c R n.val := by
  obtain ⟨t, r, hR⟩ := row_split R
  have hidx := (out_blocks t).2.1
  have h := congrFun ((blocks14 m c t (out_flush t).2.1).trans (flushed14 m c t)) (ix2 r n)
  refine Eq.trans ?_ (h.trans (k_rows_block m c t r R hR n))
  unfold outK
  generalize (dats m 0 c).arrAt 14 cfg0.N = A
  blk_ext [hidx]

/-- of values, -/
theorem v_rows_at (R : Fin 16384) (n : Fin 1024) :
    outV m c (ix2 R n) = Rotary.col (hrow m c R) (mat m c) (2048 + n.val) := by
  obtain ⟨t, r, hR⟩ := row_split R
  have hidx := (out_blocks t).2.2.1
  have h := congrFun ((blocks15 m c t (out_flush t).2.2.1).trans (flushed15 m c t)) (ix2 r n)
  refine Eq.trans ?_ (h.trans (v_rows_block m c t r R hR n))
  unfold outV
  generalize (dats m 0 c).arrAt 15 cfg0.N = A
  blk_ext [hidx]

/-- the logs of the forget gates, -/
theorem lf_at (R : Fin 16384) (e : Fin 8) : outLf m c (ix2 e R) = Rotary.logSigmoid (forget m c R e) := by
  obtain ⟨t, r, hR⟩ := row_split R
  have hidx := (out_blocks t).2.2.2.1
  have h := congrFun ((blocks16 m c t (out_flush t).2.2.2.1).trans (flushed16 m c t)) (ix2 e r)
  refine Eq.trans ?_ (h.trans (lf_block m c t r R hR e))
  unfold outLf
  generalize (dats m 0 c).arrAt 16 cfg0.N = A
  blk_ext [hidx]

/-- the output gates, -/
theorem gates_at (R : Fin 16384) (n : Fin 3072) :
    outGates m c (ix2 R n) = Ideal.logistic (Rotary.col (hrow m c R) (mat m c) (3076 + n.val)) := by
  obtain ⟨t, r, hR⟩ := row_split R
  have hidx := (out_blocks t).2.2.2.2.1
  have h := congrFun ((blocks17 m c t (out_flush t).2.2.2.2.1).trans (flushed17 m c t)) (ix2 r n)
  refine Eq.trans ?_ (h.trans (gates_block m c t r R hR n))
  unfold outGates
  generalize (dats m 0 c).arrAt 17 cfg0.N = A
  blk_ext [hidx]

/-- the turning heads' queries, -/
theorem qc_at (R : Fin 16384) (n : Fin 512) : outQc m c (ix2 R n) = queries m c R (512 + n.val) := by
  obtain ⟨t, r, hR⟩ := row_split R
  have hidx := (out_blocks t).2.2.2.2.2.1
  have h := congrFun ((blocks18 m c t (out_flush t).2.2.2.2.2.1).trans (flushed18 m c t)) (ix2 r n)
  refine Eq.trans ?_ (h.trans (qc_block m c t r R hR n))
  unfold outQc
  generalize (dats m 0 c).arrAt 18 cfg0.N = A
  blk_ext [hidx]

/-- all the queries, scaled, two heads to a slab, -/
theorem qh_at (p : Fin 8) (R : Fin 16384) (l : Fin 128) :
    outQh m c (ix3 p R l) = queries m c R (128 * p.val + l.val) * Ideal.ofBits .f32 1040187392#32 := by
  obtain ⟨t, r, hR⟩ := row_split R
  have hidx := (out_blocks t).1
  have h := congrFun ((blocks11 m c t (out_flush t).1).trans (flushed11 m c t)) (ix3 p r l)
  refine Eq.trans ?_ (h.trans (qh_block m c t r R hR p l))
  unfold outQh
  generalize (dats m 0 c).arrAt 11 cfg0.N = A
  blk_ext [hidx]

/-- and the means of the turning heads' keys over blocks of 256 rows. -/
theorem kmean_at (b : Fin 32) (i : Fin 2) (n : Fin 512) (Rj : Fin 256 → Fin 16384) (hRj : ∀ j, (Rj j).val = 512 * b.val + (256 * i.val + j.val)) :
    outMean m c (ix3 b i n) = (∑ j, keys m c (Rj j) (512 + n.val)) * Ideal.ofBits .f32 998244352#32 := by
  have hidx := (out_blocks b).2.2.2.2.2.2
  have h := congrFun ((blocks19 m c b (out_flush b).2.2.2.2.2.2).trans (flushed19 m c b)) (ix3 0 i n)
  refine Eq.trans ?_ (h.trans (kmean_block m c b i n Rj hRj))
  unfold outMean
  generalize (dats m 0 c).arrAt 19 cfg0.N = A
  blk_ext [hidx]

end Cert.ProjectIdeal

end
-- ==== Proof.ProjectRefRows.lean ====
/- The projection's reference, row by row: its stages as arrays, and each result at an index. -/
module

public import proofs.«01_k».proof.Proof.Gen.ProjectReferenceIdeal.Run
public import proofs.«01_k».proof.Proof.Moe
public import proofs.«01_k».proof.Proof.Rotary
public import Idealize.ShloMosaic.Lib.Pointwise

@[expose] public section

set_option maxRecDepth 16384

noncomputable section

namespace Cert.ProjectReferenceIdeal

open Idealize.ShloMosaic Idealize.ShloMosaic.TcCoe Idealize.SL.Sem
open Cert.ProjectReferenceIdeal.Gen Cert.ProjectReferenceIdeal.Value

/-! ## The stages, over any arrays -/

/-- The hidden activations. -/
def hidden (x : FVec Ideal S1x16384x1024 .f32) (sh sc : FVec Ideal S1x1x1024 .f32) (g : FVec Ideal S1024 .f32) : FVec Ideal S1x16384x1024 .f32 :=
  addf (mulf (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 g)))
    (broadcastInDim S1x16384x1024 ![0, 1, 2] bcast_S1x1x1024_S1x16384x1024_0_1_2 (addf (broadcastInDim S1x1x1024 ![] bcast_S_S1x1x1024 (constant S_ .f32 0x3F800000#32)) sc)))
    (broadcastInDim S1x16384x1024 ![0, 1, 2] bcast_S1x1x1024_S1x16384x1024_0_1_2 sh)

theorem hidden_apply (x : FVec Ideal S1x16384x1024 .f32) (sh sc : FVec Ideal S1x1x1024 .f32) (g : FVec Ideal S1024 .f32) (R : Fin 16384) (k : Fin 1024) :
    hidden x sh sc g (ix3 0 R k) = Moe.hidden (fun k => x (ix3 0 R k)) (fun k => g (ix1 k)) (fun k => sc (ix3 0 0 k)) (fun k => sh (ix3 0 0 k)) k := by
  unfold Moe.hidden Moe.norm Moe.width Moe.eps
  pointwise [hidden]

/-- Their product with the projection's matrix. -/
def product (h : FVec Ideal S1x16384x1024 .f32) (w : FVec Ideal S1024x6148 .f32) : FVec Ideal S1x16384x6148 .f32 :=
  Host.dotGeneral dot_S1x16384x1024_S1024x6148_S1x16384x6148_2_0_01_1_n_n none h w

theorem product_apply (h : FVec Ideal S1x16384x1024 .f32) (w : FVec Ideal S1024x6148 .f32) (R : Fin 16384) (j : Fin 6148) (n : ℕ) (hj : j.val = n) :
    product h w (ix3 0 R j) = Rotary.col (fun k => h (ix3 0 R k)) (fun k j => w (ix2 k j)) n := by
  rw [Rotary.col_of _ _ _ j hj]
  pointwise [product]

/-- The angles. -/
def angles : FVec Ideal S16384x8 .f32 :=
  mulf (broadcastInDim S16384x8 ![0, 1] bcast_S16384x1_S16384x8_0_1 (broadcastInDim S16384x1 ![0] bcast_S16384_S16384x1_0 (sitofp .f32 (iotaInDim S16384 32 0))))
    (broadcastInDim S16384x8 ![0, 1] bcast_S1x8_S16384x8_0_1 (broadcastInDim S1x8 ![1] bcast_S8_S1x8_1 (Host.powf (broadcastInDim S8 ![] bcast_S_S8 (constant S_ .f32 0x48F42400#32))
      (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
        (broadcastInDim S8 ![] bcast_S_S8 (constant S_ .f32 0x41800000#32))))))

theorem angles_apply (R : Fin 16384) (d : Fin 8) : angles (ix2 R d) = Rotary.angle R.val d.val := by
  pointwise [angles, Rotary.angle]

/-- A table of the angles, along the heads. -/
def along (a : FVec Ideal S16384x8 .f32) : FVec Ideal S1x16384x8x8 .f32 :=
  broadcastInDim S1x16384x8x8 ![0, 1, 2, 3] bcast_S1x16384x1x8_S1x16384x8x8_0_1_2_3 (broadcastInDim S1x16384x1x8 ![1, 2, 3] bcast_S16384x1x8_S1x16384x1x8_1_2_3 (broadcastInDim S16384x1x8 ![0, 2] bcast_S16384x8_S16384x1x8_0_2 a))

theorem along_cos (R : Fin 16384) (h d : Fin 8) : along (Host.cos angles) (ix4 0 R h d) = Rotary.cosOf R.val d.val := by
  pointwise [along]
  show FloatOps.cos (F := Ideal) (φ := FTy.f32) (angles (ix2 R d)) = _
  rw [angles_apply]
  rfl

theorem along_sin (R : Fin 16384) (h d : Fin 8) : along (Host.sin angles) (ix4 0 R h d) = Rotary.sinOf R.val d.val := by
  pointwise [along]
  show FloatOps.sin (F := Ideal) (φ := FTy.f32) (angles (ix2 R d)) = _
  rw [angles_apply]
  rfl

/-- The turn of eight heads. -/
def turned (T : FVec Ideal S1x16384x8x64 .f32) : FVec Ideal S1x16384x8x64 .f32 :=
  let X := extractStridedSlice S1x16384x8x16 ![0, 0, 0, 0] T slices_S1x16384x8x64_S1x16384x8x16_0_0_0_0
  let a := extractStridedSlice S1x16384x8x8 ![0, 0, 0, 0] X slices_S1x16384x8x16_S1x16384x8x8_0_0_0_0
  let b := extractStridedSlice S1x16384x8x8 ![0, 0, 0, 8] X slices_S1x16384x8x16_S1x16384x8x8_0_0_0_8
  concatenate S1x16384x8x64 3 [⟨S1x16384x8x16, concatenate S1x16384x8x16 3 [⟨S1x16384x8x8, subf (mulf a (along (Host.cos angles))) (mulf b (along (Host.sin angles)))⟩,
      ⟨S1x16384x8x8, addf (mulf b (along (Host.cos angles))) (mulf a (along (Host.sin angles)))⟩] concatenates_S1x16384x8x8_S1x16384x8x8_S1x16384x8x16_d3⟩,
    ⟨S1x16384x8x48, extractStridedSlice S1x16384x8x48 ![0, 0, 0, 16] T slices_S1x16384x8x64_S1x16384x8x48_0_0_0_16⟩] concatenates_S1x16384x8x16_S1x16384x8x48_S1x16384x8x64_d3

theorem turned_apply (T : FVec Ideal S1x16384x8x64 .f32) (R : Fin 16384) (y : ℕ → EReal)
    (hT : ∀ h : Fin 8, ∀ d : Fin 64, T (ix4 0 R h d) = y (64 * h.val + d.val)) (h : Fin 8) (d : Fin 64) :
    turned T (ix4 0 R h d) = Rotary.turn (Rotary.cosOf R.val) (Rotary.sinOf R.val) y (64 * h.val + d.val) := by
  have hm : (64 * h.val + d.val) % 64 = d.val := by omega
  unfold Rotary.turn
  rw [hm]
  pointwise [turned]
  simp only [along_cos, along_sin, hT]
  by_cases h8 : d.val < 8
  · rw [dif_pos (by omega : d.val < 16), dif_pos h8, if_pos h8, show 64 * h.val + (8 + d.val) = 64 * h.val + d.val + 8 by omega]
  · rw [if_neg h8]
    by_cases h16 : d.val < 16
    · rw [dif_pos h16, dif_neg h8, if_pos h16, show 64 * h.val + (8 + (d.val - 8)) = 64 * h.val + d.val by omega,
        show 64 * h.val + (d.val - 8) = 64 * h.val + d.val - 8 by omega]
    · rw [dif_neg h16, if_neg h16, show 64 * h.val + (16 + (d.val - 16)) = 64 * h.val + d.val by omega]

/-- Sixteen heads of which the last eight turn. -/
def all (Y : FVec Ideal S1x16384x1024 .f32) : FVec Ideal S1x16384x16x64 .f32 :=
  let S := shapeCast S1x16384x16x64 Y shapeCasts_S1x16384x1024_S1x16384x16x64
  concatenate S1x16384x16x64 2 [⟨S1x16384x8x64, extractStridedSlice S1x16384x8x64 ![0, 0, 0, 0] S slices_S1x16384x16x64_S1x16384x8x64_0_0_0_0⟩,
    ⟨S1x16384x8x64, turned (extractStridedSlice S1x16384x8x64 ![0, 0, 8, 0] S slices_S1x16384x16x64_S1x16384x8x64_0_0_8_0)⟩] concatenates_S1x16384x8x64_S1x16384x8x64_S1x16384x16x64_d2

theorem all_apply (Y : FVec Ideal S1x16384x1024 .f32) (R : Fin 16384) (y : ℕ → EReal) (hY : ∀ n : Fin 1024, Y (ix3 0 R n) = y n.val) (h : Fin 16) (d : Fin 64) :
    all Y (ix4 0 R h d) = Rotary.heads (Rotary.cosOf R.val) (Rotary.sinOf R.val) y (64 * h.val + d.val) := by
  unfold Rotary.heads
  pointwise [all]
  by_cases h8 : h.val < 8
  · rw [dif_pos h8, if_pos (show 64 * h.val + d.val < 512 by omega), hY]
    exact congrArg y (by simp only []; omega)
  · rw [dif_neg h8, if_neg (show ¬64 * h.val + d.val < 512 by omega)]
    refine (turned_apply _ R (fun n => y (512 + n)) (fun h d => ?_) _ d).trans ?_
    · pointwise
      rw [hY]
      exact congrArg y (by simp only []; omega)
    · exact Rotary.turn_shift _ _ y 512 (by norm_num) _ _ (by simp only []; omega)

/-! ## The results -/

variable (m : (ℓ : Loc nD τ sig) → Buf (Elt Ideal) ℓ) (c : Dev nD)

abbrev argX : FVec Ideal S1x16384x1024 .f32 := m ((c.tc : Thread nD τ).loc main_arg0)
abbrev argSh : FVec Ideal S1x1x1024 .f32 := m ((c.tc : Thread nD τ).loc main_arg1)
abbrev argSc : FVec Ideal S1x1x1024 .f32 := m ((c.tc : Thread nD τ).loc main_arg2)
abbrev argNg : FVec Ideal S1024 .f32 := m ((c.tc : Thread nD τ).loc main_arg3)
abbrev argW : FVec Ideal S1024x6148 .f32 := m ((c.tc : Thread nD τ).loc main_arg4)
abbrev argBf : FVec Ideal S4 .f32 := m ((c.tc : Thread nD τ).loc main_arg5)

/-- The product, its row `R` and the row's columns. -/
def proj : FVec Ideal S1x16384x6148 .f32 := product (hidden (argX m c) (argSh m c) (argSc m c) (argNg m c)) (argW m c)

def colOf (R : Fin 16384) : ℕ → EReal :=
  Rotary.col (Moe.hidden (fun k => argX m c (ix3 0 R k)) (fun k => argNg m c (ix1 k)) (fun k => argSc m c (ix3 0 0 k)) (fun k => argSh m c (ix3 0 0 k)))
    (fun k j => argW m c (ix2 k j))

theorem proj_apply (R : Fin 16384) (j : Fin 6148) (n : ℕ) (hj : j.val = n) : proj m c (ix3 0 R j) = colOf m c R n := by
  unfold proj colOf
  rw [product_apply _ _ R j n hj]
  simp only [hidden_apply]

/-- The columns of queries and of keys, as heads, the last eight turned. -/
def qHeads : FVec Ideal S1x16384x16x64 .f32 := all (extractStridedSlice S1x16384x1024 ![0, 0, 0] (proj m c) slices_S1x16384x6148_S1x16384x1024_0_0_0)
def kHeads : FVec Ideal S1x16384x16x64 .f32 := all (extractStridedSlice S1x16384x1024 ![0, 0, 1024] (proj m c) slices_S1x16384x6148_S1x16384x1024_0_0_1024)

def queries (R : Fin 16384) : ℕ → EReal := Rotary.heads (Rotary.cosOf R.val) (Rotary.sinOf R.val) (colOf m c R)
def keys (R : Fin 16384) : ℕ → EReal := Rotary.heads (Rotary.cosOf R.val) (Rotary.sinOf R.val) (fun n => colOf m c R (1024 + n))

theorem qHeads_apply (R : Fin 16384) (h : Fin 16) (d : Fin 64) (n : ℕ) (hn : n = 64 * h.val + d.val) : qHeads m c (ix4 0 R h d) = queries m c R n := by
  subst hn
  refine all_apply _ R _ (fun n => ?_) h d
  pointwise
  exact proj_apply m c R _ _ (by simp only [])

theorem kHeads_apply (R : Fin 16384) (h : Fin 16) (d : Fin 64) (n : ℕ) (hn : n = 64 * h.val + d.val) : kHeads m c (ix4 0 R h d) = keys m c R n := by
  subst hn
  refine all_apply _ R _ (fun n => ?_) h d
  pointwise
  exact proj_apply m c R _ _ (by simp only [])

/-- The rows of keys, as the reference's stages, and at an index; -/
theorem v131_stage : res_main_v131 m c = shapeCast S16384x1024 (kHeads m c) shapeCasts_S1x16384x16x64_S16384x1024 := by
  unfold res_main_v131
  rfl

theorem v131_apply (R : Fin 16384) (n : Fin 1024) : Eq (α := EReal) (res_main_v131 m c (ix2 R n)) (keys m c R n.val) := by
  rw [v131_stage]
  pointwise
  exact kHeads_apply m c R _ _ _ (by simp only []; omega)

/-- the turning heads' queries; -/
theorem v144_stage : res_main_v144 m c = shapeCast S16384x512 (shapeCast S16384x8x64 (extractStridedSlice S1x16384x8x64 ![0, 0, 8, 0] (qHeads m c)
    slices_S1x16384x16x64_S1x16384x8x64_0_0_8_0) shapeCasts_S1x16384x8x64_S16384x8x64) shapeCasts_S16384x8x64_S16384x512 := by
  unfold res_main_v144
  rfl

theorem v144_apply (R : Fin 16384) (n : Fin 512) : Eq (α := EReal) (res_main_v144 m c (ix2 R n)) (queries m c R (512 + n.val)) := by
  rw [v144_stage]
  pointwise
  exact qHeads_apply m c R _ _ _ (by simp only []; omega)

/-- all the queries, scaled, two heads to a slab; -/
theorem v130_stage : res_main_v130 m c = truncf (F := Ideal) .bf16 (transpose S8x16384x128 [1, 0, 2] (shapeCast S16384x8x128 (mulf (qHeads m c)
    (broadcastInDim S1x16384x16x64 ![] bcast_S_S1x16384x16x64 (constant S_ .f32 0x3E000000#32))) shapeCasts_S1x16384x16x64_S16384x8x128)
    transposes_S16384x8x128_S8x16384x128_1_0_2) bitsLt_bf16_f32 := by
  unfold res_main_v130
  rfl

theorem v130_apply (p : Fin 8) (R : Fin 16384) (l : Fin 128) :
    Eq (α := EReal) (res_main_v130 m c (ix3 p R l)) (queries m c R (128 * p.val + l.val) * Ideal.ofBits .f32 1040187392#32) := by
  rw [v130_stage]
  pointwise
  rw [qHeads_apply m c R _ _ (128 * p.val + l.val) (by simp only []; omega)]

/-- and the means of the turning heads' keys over blocks of 256 rows. -/
theorem v145_stage : res_main_v145 m c = shapeCast S32x2x512 (Host.divf (Host.reduceAdd (shapeCast S64x256x512 (shapeCast S16384x8x64
    (extractStridedSlice S1x16384x8x64 ![0, 0, 8, 0] (kHeads m c) slices_S1x16384x16x64_S1x16384x8x64_0_0_8_0) shapeCasts_S1x16384x8x64_S16384x8x64)
    shapeCasts_S16384x8x64_S64x256x512) (constant S_ .f32 0x00000000#32) reducesTo_S64x256x512_S64x512_d1 h_S_)
    (broadcastInDim S64x512 ![] bcast_S_S64x512 (constant S_ .f32 0x43800000#32))) shapeCasts_S64x512_S32x2x512 := by
  unfold res_main_v145
  rfl

theorem v145_apply (b : Fin 32) (i : Fin 2) (n : Fin 512) (Rj : Fin 256 → Fin 16384) (hRj : ∀ j, (Rj j).val = 512 * b.val + (256 * i.val + j.val)) :
    Eq (α := EReal) (res_main_v145 m c (ix3 b i n)) ((∑ j, keys m c (Rj j) (512 + n.val)) * Ideal.ofBits .f32 998244352#32) := by
  rw [v145_stage]
  pointwise
  rw [Rotary.mean_eq]
  refine congrArg (fun z : EReal => z * Ideal.ofBits .f32 998244352#32) (Finset.sum_congr rfl fun j _ => ?_)
  rw [show Rj j = ⟨(b.val * 2 + i.val) * 256 + j.val, by omega⟩ from Fin.ext (by rw [hRj]; simp only []; omega)]
  exact kHeads_apply m c _ _ _ _ (by simp only []; omega)

/-- The columns of values, -/
def vRows : FVec Ideal S16384x1024 .f32 := shapeCast _ (shapeCast _ (extractStridedSlice S1x16384x1024 ![0, 0, 2048] (proj m c)
  slices_S1x16384x6148_S1x16384x1024_0_0_2048) shapeCasts_S1x16384x1024_S1x16384x16x64) shapeCasts_S1x16384x16x64_S16384x1024

theorem vRows_apply (R : Fin 16384) (n : Fin 1024) : vRows m c (ix2 R n) = colOf m c R (2048 + n.val) := by
  pointwise [vRows]
  exact proj_apply m c R _ _ rfl

/-- and the output gates. -/
def gates : FVec Ideal S16384x3072 .f32 := shapeCast _ (Host.divf (broadcastInDim S1x16384x3072 ![] bcast_S_S1x16384x3072 (constant S_ .f32 0x3F800000#32))
  (addf (broadcastInDim S1x16384x3072 ![] bcast_S_S1x16384x3072 (constant S_ .f32 0x3F800000#32)) (Host.exp (Host.negf (extractStridedSlice S1x16384x3072
    ![0, 0, 3076] (proj m c) slices_S1x16384x6148_S1x16384x3072_0_0_3076))))) shapeCasts_S1x16384x3072_S16384x3072

theorem gates_apply (R : Fin 16384) (n : Fin 3072) : gates m c (ix2 R n) = Ideal.logistic (colOf m c R (3076 + n.val)) := by
  pointwise [gates]
  rw [proj_apply m c R _ (3076 + n.val) rfl]
  rfl

/-- The forget gates' arguments, negated, with four columns of padding. -/
def negated : FVec Ideal S1x16384x8 .f32 :=
  Host.negf (pad S1x16384x8 ![0, 0, 0] ![0, 0, 4] ![0, 0, 0] (addf (extractStridedSlice S1x16384x4 ![0, 0, 3072] (proj m c) slices_S1x16384x6148_S1x16384x4_0_0_3072)
    (broadcastInDim S1x16384x4 ![0, 1, 2] bcast_S1x1x4_S1x16384x4_0_1_2 (broadcastInDim S1x1x4 ![2] bcast_S4_S1x1x4_2 (argBf m c))))
    (sitofp .f32 (constantI S_ 32 0#32)) pads_S1x16384x4_S1x16384x8_000_000_040 h_S_)

def forget (R : Fin 16384) (e : Fin 8) : EReal := if h : e.val < 4 then colOf m c R (3072 + e.val) + argBf m c (ix1 ⟨e.val, h⟩) else 0

theorem negated_apply (R : Fin 16384) (e : Fin 8) : negated m c (ix3 0 R e) = -forget m c R e := by
  unfold forget
  pointwise [negated]
  refine congrArg (fun z : EReal => -z) ?_
  by_cases h4 : e.val < 4
  · rw [dif_pos h4, dif_pos h4, proj_apply m c R _ (3072 + e.val) rfl]
  · rw [dif_neg h4, dif_neg h4, Rotary.pad_value]

theorem v134_stage : res_main_v134 m c = transpose S8x16384 [1, 0] (shapeCast S16384x8 (Host.negf (select
    (cmpf .une (subf (negated m c) (broadcastInDim S1x16384x8 ![] bcast_S_S1x16384x8 (constant S_ .f32 0x00000000#32))) (subf (negated m c) (broadcastInDim S1x16384x8 ![] bcast_S_S1x16384x8 (constant S_ .f32 0x00000000#32))))
    (addf (negated m c) (broadcastInDim S1x16384x8 ![] bcast_S_S1x16384x8 (constant S_ .f32 0x00000000#32)))
    (addf (maximumf (negated m c) (broadcastInDim S1x16384x8 ![] bcast_S_S1x16384x8 (constant S_ .f32 0x00000000#32)))
      (Host.log1p (Host.exp (Host.negf (Host.absf (subf (negated m c) (broadcastInDim S1x16384x8 ![] bcast_S_S1x16384x8 (constant S_ .f32 0x00000000#32))))))))))
    shapeCasts_S1x16384x8_S16384x8) transposes_S16384x8_S8x16384_1_0 := by
  unfold res_main_v134
  rfl

/-- The logs of the forget gates. -/
theorem v134_apply (R : Fin 16384) (e : Fin 8) : Eq (α := EReal) (res_main_v134 m c (ix2 e R)) (Rotary.logSigmoid (forget m c R e)) := by
  rw [v134_stage]
  pointwise
  simp only [negated_apply]
  rw [← Rotary.logSigmoid_eq, if_neg (not_not.mpr rfl), sub_zero]
  rfl

/-- The reference's run, its results as the stages above. -/
theorem run_stages (ρ : Dev nD → PrngReg) : θ_run defs (onTc (τ := τ) (main (F := Ideal))) ⟨m, fun _ => 0, ρ⟩ fun r => ∀ c : Dev nD,
      r.2.mem ((c.tc : Thread nD τ).loc main_v130) = res_main_v130 m c
      ∧ r.2.mem ((c.tc : Thread nD τ).loc main_v131) = res_main_v131 m c
      ∧ r.2.mem ((c.tc : Thread nD τ).loc main_v132) = vRows m c
      ∧ r.2.mem ((c.tc : Thread nD τ).loc main_v134) = res_main_v134 m c
      ∧ r.2.mem ((c.tc : Thread nD τ).loc main_v141) = gates m c
      ∧ r.2.mem ((c.tc : Thread nD τ).loc main_v144) = res_main_v144 m c
      ∧ r.2.mem ((c.tc : Thread nD τ).loc main_v145) = res_main_v145 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.ProjectReferenceIdeal

end
-- ==== Proof.Gated.lean ====
/- The dense feed-forward of a token, over the extended reals and over no program: the inner row, its product with the last
   projection in one sum or in eleven, and the row that leaves the layer. -/
module

public import proofs.«01_k».proof.Proof.Moe

@[expose] public section

noncomputable section

namespace Cert.Gated

open Idealize.ShloMosaic

/-- Element `f` of the inner row, times the row of the last projection it meets. -/
def term (h : Fin 1024 → EReal) (wg wu : Fin 1024 → Fin 2816 → EReal) (wd : Fin 2816 → Fin 1024 → EReal) (l : Fin 1024) (f : Fin 2816) : EReal :=
  (∑ k, h k * wg k f) * Ideal.logistic (∑ k, h k * wg k f) * (∑ k, h k * wu k f) * wd f l

/-- The row with the layer's product added under a gain. -/
def row (x g h : Fin 1024 → EReal) (wg wu : Fin 1024 → Fin 2816 → EReal) (wd : Fin 2816 → Fin 1024 → EReal) (l : Fin 1024) : EReal :=
  x l + g l * ∑ f, term h wg wu wd l f

/-- The part of the product that 256 elements of the inner row give. -/
def piece (h : Fin 1024 → EReal) (wg wu : Fin 1024 → Fin 2816 → EReal) (wd : Fin 2816 → Fin 1024 → EReal) (l : Fin 1024) (q : Fin 11) : EReal :=
  ∑ j : Fin 256, term h wg wu wd l ⟨q.val * 256 + j.val, by omega⟩

/-- The eleven parts, added in order, are the product. -/
theorem sum_pieces (h : Fin 1024 → EReal) (wg wu : Fin 1024 → Fin 2816 → EReal) (wd : Fin 2816 → Fin 1024 → EReal) (l : Fin 1024) :
    piece h wg wu wd l 0 + piece h wg wu wd l 1 + piece h wg wu wd l 2 + piece h wg wu wd l 3 + piece h wg wu wd l 4 + piece h wg wu wd l 5 + piece h wg wu wd l 6
      + piece h wg wu wd l 7 + piece h wg wu wd l 8 + piece h wg wu wd l 9 + piece h wg wu wd l 10 = ∑ f, term h wg wu wd l f := by
  have e : ∑ q : Fin 11, piece h wg wu wd l q = ∑ f, term h wg wu wd l f := Fin.sum_mul_add_congr fun q j hl => rfl
  rw [← e]
  simp only [Fin.sum_univ_castSucc, Fin.sum_univ_zero, zero_add]
  rfl

end Cert.Gated

end
-- ==== Proof.DenseRows.lean ====
/- The dense feed-forward kernel, row by row: its operands when its call starts, the blocks of a point, the eleven parts of the product,
   the result's block and the result array. -/
module

public import proofs.«01_k».proof.Proof.Gen.DenseIdeal.Value
public import proofs.«01_k».proof.Proof.Gated
public import Idealize.ShloMosaic.Lib.Claim

@[expose] public section

set_option maxRecDepth 16384

noncomputable section

namespace Cert.DenseIdeal

open Idealize.ShloMosaic Idealize.ShloMosaic.TcCoe Idealize.SL.Sem
open Cert.DenseIdeal.Gen Cert.DenseIdeal.Value

/-! ## The kernel's arithmetic, over any arrays -/

/-- What 256 columns of the first two matrices and 256 rows of the last give: the two products, the first through its logistic, and
    the last product. -/
def part (h : FVec Ideal S512x1024 .bf16) (wg wu : FVec Ideal S1024x256 .bf16) (wd : FVec Ideal S256x1024 .bf16) : FVec Ideal S512x1024 .f32 :=
  let a := matmul dot_S512x1024_S1024x256_S512x256_1_0_0_1_n_n none h (shapeCast S1024x256 wg shapeCasts_S1024x256_S1024x256) (constant S512x256 .f32 0x00000000#32)
  let b := matmul dot_S512x1024_S1024x256_S512x256_1_0_0_1_n_n none h (shapeCast S1024x256 wu shapeCasts_S1024x256_S1024x256) (constant S512x256 .f32 0x00000000#32)
  matmul dot_S512x256_S256x1024_S512x1024_1_0_0_1_n_n none (truncf .bf16 (mulf (mulf a (logistic a)) b) bitsLt_bf16_f32)
    (shapeCast S256x1024 wd shapeCasts_S256x1024_S256x1024) (constant S512x1024 .f32 0x00000000#32)

theorem part_apply (h : FVec Ideal S512x1024 .bf16) (wg wu : FVec Ideal S1024x256 .bf16) (wd : FVec Ideal S256x1024 .bf16) (r : Fin 512) (l : Fin 1024) :
    part h wg wu wd (ix2 r l) = ∑ j : Fin 256, (∑ k : Fin 1024, h (ix2 r k) * wg (ix2 k j)) * Ideal.logistic (∑ k : Fin 1024, h (ix2 r k) * wg (ix2 k j))
      * (∑ k : Fin 1024, h (ix2 r k) * wu (ix2 k j)) * wd (ix2 j l) := by
  pointwise [part]

/-- The block under the gain: the eleven parts, added in order. -/
theorem parts_apply (x : Vec Ideal S512x1024 .f32) (g ng sc sh : Vec Ideal S1x1024 .f32) (wg wu : Fin 11 → Vec Ideal S1024x256 .bf16)
    (wd : Fin 11 → Vec Ideal S256x1024 .bf16) (r : Fin 512) (l : Fin 1024) :
    k0_pay11 (F := Ideal) (k0_pay1 (F := Ideal) x) (k0_pay2 (F := Ideal) x ng sc sh)
      (k0_pay9 (k0_pay2 (F := Ideal) x ng sc sh)
        (k0_pay8 (k0_pay2 (F := Ideal) x ng sc sh)
          (k0_pay5 (k0_pay2 (F := Ideal) x ng sc sh) (k0_pay3 (F := Ideal) x ng sc sh (wg 0) (wu 0)) (k0_pay4 (wd 0)) (wg 1) (wu 1) (wd 1) (wg 2) (wu 2) (wd 2))
          (k0_pay6 (k0_pay2 (F := Ideal) x ng sc sh) (wg 3)) (k0_pay7 (wu 3)) (wd 3) (wg 4) (wu 4) (wd 4) (wg 5) (wu 5) (wd 5))
        (wg 6) (wu 6) (wd 6) (wg 7) (wu 7) (wd 7))
      (k0_pay10 (k0_pay2 (F := Ideal) x ng sc sh) (wg 8) (wu 8)) (wd 8) (wg 9) (wu 9) (wd 9) (wg 10) (wu 10) (wd 10) g (ix2 r l)
    = x (ix2 r l) + g (ix2 0 l) * (let p := fun q : Fin 11 => part (k0_pay2 (F := Ideal) x ng sc sh) (wg q) (wu q) (wd q) (ix2 r l)
        p 0 + p 1 + p 2 + p 3 + p 4 + p 5 + p 6 + p 7 + p 8 + p 9 + p 10) := by
  have e : k0_pay11 (F := Ideal) (k0_pay1 (F := Ideal) x) (k0_pay2 (F := Ideal) x ng sc sh)
      (k0_pay9 (k0_pay2 (F := Ideal) x ng sc sh)
        (k0_pay8 (k0_pay2 (F := Ideal) x ng sc sh)
          (k0_pay5 (k0_pay2 (F := Ideal) x ng sc sh) (k0_pay3 (F := Ideal) x ng sc sh (wg 0) (wu 0)) (k0_pay4 (wd 0)) (wg 1) (wu 1) (wd 1) (wg 2) (wu 2) (wd 2))
          (k0_pay6 (k0_pay2 (F := Ideal) x ng sc sh) (wg 3)) (k0_pay7 (wu 3)) (wd 3) (wg 4) (wu 4) (wd 4) (wg 5) (wu 5) (wd 5))
        (wg 6) (wu 6) (wd 6) (wg 7) (wu 7) (wd 7))
      (k0_pay10 (k0_pay2 (F := Ideal) x ng sc sh) (wg 8) (wu 8)) (wd 8) (wg 9) (wu 9) (wd 9) (wg 10) (wu 10) (wd 10) g
    = addf (k0_pay1 (F := Ideal) x) (mulf (broadcastTo S512x1024 (shapeCast S1x1024 g shapeCasts_S1x1024_S1x1024) broadcasts_S1x1024_S512x1024)
        (let p := fun q : Fin 11 => part (k0_pay2 (F := Ideal) x ng sc sh) (wg q) (wu q) (wd q)
         addf (addf (addf (addf (addf (addf (addf (addf (addf (addf (p 0) (p 1)) (p 2)) (p 3)) (p 4)) (p 5)) (p 6)) (p 7)) (p 8)) (p 9)) (p 10))) := rfl
  rw [e]
  generalize k0_pay2 (F := Ideal) x ng sc sh = H
  pointwise [k0_pay1]

variable (m : (ℓ : Loc nD τ sig) → Buf (Elt Ideal) ℓ) (c : Dev nD)

/-! The arguments as arrays of extended reals. -/

abbrev argX : FVec Ideal S1x16384x1024 .f32 := m ((c : Thread nD τ).loc main_arg0)
abbrev argSh : FVec Ideal S1x1x1024 .f32 := m ((c : Thread nD τ).loc main_arg1)
abbrev argSc : FVec Ideal S1x1x1024 .f32 := m ((c : Thread nD τ).loc main_arg2)
abbrev argG2 : FVec Ideal S1x1x1024 .f32 := m ((c : Thread nD τ).loc main_arg3)
abbrev argNg : FVec Ideal S1024 .f32 := m ((c : Thread nD τ).loc main_arg4)
abbrev argWg : FVec Ideal S1024x2816 .f32 := m ((c : Thread nD τ).loc main_arg5)
abbrev argWu : FVec Ideal S1024x2816 .f32 := m ((c : Thread nD τ).loc main_arg6)
abbrev argWd : FVec Ideal S2816x1024 .f32 := m ((c : Thread nD τ).loc main_arg7)

/-- The token's hidden row, -/
def hrow (R : Fin 16384) : Fin 1024 → EReal :=
  Moe.hidden (fun k => argX m c (ix3 0 R k)) (fun k => argNg m c (ix1 k)) (fun k => argSc m c (ix3 0 0 k)) (fun k => argSh m c (ix3 0 0 k))

/-- and the row that leaves the call. -/
def fed (R : Fin 16384) : Fin 1024 → EReal :=
  Gated.row (fun l => argX m c (ix3 0 R l)) (fun l => argG2 m c (ix3 0 0 l)) (hrow m c R) (fun k f => argWg m c (ix2 k f)) (fun k f => argWu m c (ix2 k f))
    (fun f l => argWd m c (ix2 f l))

/-- The block numbers: the rows' move with the point, the others stay, and the result's move with the point. -/
theorem block_numbers : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] := by
  decide +kernel

/-- Every point writes back. -/
theorem out_flush : ∀ t : Fin cfg0.N, (cfg0.win 8).flush t = true := by decide +kernel

/-! What the operands hold when the call starts. -/

theorem V_x : V m c main_v7 = shapeCast S16384x1024 (argX m c) shapeCasts_S1x16384x1024_S16384x1024 := by
  simp only [V, List.flatten_cons, List.flatten_nil, List.cons_append, List.nil_append]
  entry_read
  rfl

theorem V_rows : V m c main_v0 = shapeCast S1x1024 (argSh m c) shapeCasts_S1x1x1024_S1x1024 ∧ V m c main_v1 = shapeCast S1x1024 (argSc m c) shapeCasts_S1x1x1024_S1x1024
    ∧ V m c main_v2 = shapeCast S1x1024 (argG2 m c) shapeCasts_S1x1x1024_S1x1024 ∧ V m c main_v3 = shapeCast S1x1024 (argNg m c) shapeCasts_S1024_S1x1024 := by
  refine ⟨?_, ?_, ?_, ?_⟩ <;>
  · simp only [V, List.flatten_cons, List.flatten_nil, List.cons_append, List.nil_append]
    entry_read
    rfl

theorem V_mats : V m c main_v4 = truncf .bf16 (argWg m c) bitsLt_bf16_f32 ∧ V m c main_v5 = truncf .bf16 (argWu m c) bitsLt_bf16_f32
    ∧ V m c main_v6 = truncf .bf16 (argWd m c) bitsLt_bf16_f32 := by
  refine ⟨?_, ?_, ?_⟩ <;>
  · simp only [V, List.flatten_cons, List.flatten_nil, List.cons_append, List.nil_append]
    entry_read
    rfl

/-! The blocks of a point, element by element. -/

section
variable (t : Fin cfg0.N)

theorem blk_x (r : Fin 512) (R : Fin 16384) (hR : R.val = 512 * t.val + r.val) (k : Fin 1024) : iblk m c 0 t (ix2 r k) = argX m c (ix3 0 R k) := by
  have hi := (block_numbers t).1
  blk_simp [iblk]
  rw [V_x]
  pointwise
  blk_ext [hi, hR]

theorem blk_sh (k : Fin 1024) : iblk m c 1 t (ix2 0 k) = argSh m c (ix3 0 0 k) := by
  have hi := block_numbers t
  blk_simp [iblk]
  rw [(V_rows m c).1]
  pointwise
  blk_ext [hi]

theorem blk_sc (k : Fin 1024) : iblk m c 2 t (ix2 0 k) = argSc m c (ix3 0 0 k) := by
  have hi := block_numbers t
  blk_simp [iblk]
  rw [(V_rows m c).2.1]
  pointwise
  blk_ext [hi]

theorem blk_g2 (k : Fin 1024) : iblk m c 3 t (ix2 0 k) = argG2 m c (ix3 0 0 k) := by
  have hi := block_numbers t
  blk_simp [iblk]
  rw [(V_rows m c).2.2.1]
  pointwise
  blk_ext [hi]

theorem blk_ng (k : Fin 1024) : iblk m c 4 t (ix2 0 k) = argNg m c (ix1 k) := by
  have hi := block_numbers t
  blk_simp [iblk]
  rw [(V_rows m c).2.2.2]
  pointwise
  blk_ext [hi]

theorem blk_wg (k : Fin 1024) (f : Fin 2816) : iblk m c 5 t (ix2 k f) = argWg m c (ix2 k f) := by
  have hi := block_numbers t
  blk_simp [iblk]
  rw [(V_mats m c).1]
  pointwise
  blk_ext [hi]

theorem blk_wu (k : Fin 1024) (f : Fin 2816) : iblk m c 6 t (ix2 k f) = argWu m c (ix2 k f) := by
  have hi := block_numbers t
  blk_simp [iblk]
  rw [(V_mats m c).2.1]
  pointwise
  blk_ext [hi]

theorem blk_wd (f : Fin 2816) (l : Fin 1024) : iblk m c 7 t (ix2 f l) = argWd m c (ix2 f l) := by
  have hi := block_numbers t
  blk_simp [iblk]
  rw [(V_mats m c).2.2]
  pointwise
  blk_ext [hi]

end

/-! ## The result's block -/

/-- The columns from `256 q` on of a matrix, and the rows from there on of another. -/
theorem cols_fit (q : Fin 11) : ∀ a, (![0, 256 * q.val] : Fin 2 → ℕ) a + S1024x256.size a ≤ S1024x2816.size a := by revert q; decide
theorem rows_fit (q : Fin 11) : ∀ a, (![256 * q.val, 0] : Fin 2 → ℕ) a + S256x1024.size a ≤ S2816x1024.size a := by revert q; decide

def cols (w : Vec Ideal S1024x2816 .bf16) (q : Fin 11) : Vec Ideal S1024x256 .bf16 := View.ld w (Rect.unit (s := S1024x2816) ![0, 256 * q.val] S1024x256.size (cols_fit q))
def rows (w : Vec Ideal S2816x1024 .bf16) (q : Fin 11) : Vec Ideal S256x1024 .bf16 := View.ld w (Rect.unit (s := S2816x1024) ![256 * q.val, 0] S256x1024.size (rows_fit q))

theorem cols_apply (w : Vec Ideal S1024x2816 .bf16) (q : Fin 11) (k : Fin 1024) (j : Fin 256) : cols w q (ix2 k j) = w (ix2 k ⟨q.val * 256 + j.val, by omega⟩) := by
  pointwise [cols]
  exact congrArg (fun f => w (ix2 k f)) (Fin.ext (by show 256 * q.val + j.val = q.val * 256 + j.val; omega))

theorem rows_apply (w : Vec Ideal S2816x1024 .bf16) (q : Fin 11) (j : Fin 256) (l : Fin 1024) : rows w q (ix2 j l) = w (ix2 ⟨q.val * 256 + j.val, by omega⟩ l) := by
  pointwise [rows]
  exact congrArg (fun f => w (ix2 f l)) (Fin.ext (by show 256 * q.val + j.val = q.val * 256 + j.val; omega))

section
variable (t : Fin cfg0.N) (r : Fin 512) (R : Fin 16384) (hR : R.val = 512 * t.val + r.val)
include hR

/-- The hidden block, -/
theorem hidden_block (k : Fin 1024) : k0_pay2 (F := Ideal) (View.ld (iblk m c 0 t) r0_0) (View.ld (iblk m c 4 t) r0_1) (View.ld (iblk m c 2 t) r0_1)
    (View.ld (iblk m c 1 t) r0_1) (ix2 r k) = hrow m c R k := by
  pointwise [k0_pay2, k0_pay1]
  simp only [blk_x m c t r R hR, blk_ng m c t, blk_sc m c t, blk_sh m c t]
  rfl

/-- a part of the product, -/
theorem part_block (H : Vec Ideal S512x1024 .bf16) (hH : ∀ k : Fin 1024, H (ix2 r k) = hrow m c R k) (l : Fin 1024) (q : Fin 11) :
    part H (cols (iblk m c 5 t) q) (cols (iblk m c 6 t) q) (rows (iblk m c 7 t) q) (ix2 r l)
      = Gated.piece (hrow m c R) (fun k f => argWg m c (ix2 k f)) (fun k f => argWu m c (ix2 k f)) (fun f l => argWd m c (ix2 f l)) l q := by
  rw [part_apply]
  unfold Gated.piece Gated.term
  simp only [cols_apply, rows_apply, blk_wg m c t, blk_wu m c t, blk_wd m c t, hH]

/-- and the result's block. -/
theorem out_block (l : Fin 1024) : out0_8 (iblk m c 0 t) (iblk m c 1 t) (iblk m c 2 t) (iblk m c 3 t) (iblk m c 4 t) (iblk m c 5 t) (iblk m c 6 t) (iblk m c 7 t) (ix2 r l)
      = fed m c R l := by
  unfold out0_8 k0_pay12
  canon_tiles x h
  idx_vars x
  obtain rfl := Fin.ext h0
  obtain rfl := Fin.ext h1
  refine (parts_apply _ _ _ _ _ (cols (iblk m c 5 t)) (cols (iblk m c 6 t)) (rows (iblk m c 7 t)) _ _).trans ?_
  have hp := part_block m c t r R hR _ (hidden_block m c t r R hR) l
  generalize k0_pay2 (F := Ideal) (View.ld (iblk m c 0 t) r0_0) (View.ld (iblk m c 4 t) r0_1) (View.ld (iblk m c 2 t) r0_1) (View.ld (iblk m c 1 t) r0_1) = H at hp ⊢
  pointwise
  rw [blk_x m c t _ R hR, blk_g2 m c t, hp, hp, hp, hp, hp, hp, hp, hp, hp, hp, hp, Gated.sum_pieces]
  rfl

end

/-! ## The result array -/

/-- The result array after the last point. -/
def outY : FVec Ideal S16384x1024 .f32 := (dats m 0 c).arrAt 8 cfg0.N

/-- The run leaves it. -/
theorem run_outs (ρ : Dev nD → PrngReg) : θ_run defs (onTc (τ := τ) (main (F := Ideal))) ⟨m, fun _ => 0, ρ⟩ fun r => ∀ c : Dev nD,
      r.2.mem ((c : Thread nD τ).loc main_v8) = outY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => h c) (run_blocks (F := Ideal) m ρ)

/-- A row of the result is the token's row: the point that holds the row writes it back. -/
theorem out_at (R : Fin 16384) (l : Fin 1024) : outY m c (ix2 R l) = fed m c R l := by
  obtain ⟨t, r, hR⟩ : ∃ (t : Fin cfg0.N) (r : Fin 512), R.val = 512 * t.val + r.val :=
    ⟨⟨R.val / 512, (show R.val / 512 < 32 by omega)⟩, ⟨R.val % 512, by omega⟩, by simp only []; omega⟩
  have hidx := (block_numbers t).2.2.2.2.2.2.2.2
  have h := congrFun ((blocks8 m c t (out_flush t)).trans (flushed8 m c t)) (ix2 r l)
  refine Eq.trans ?_ (h.trans (out_block m c t r R hR l))
  unfold outY
  generalize (dats m 0 c).arrAt 8 cfg0.N = A
  blk_ext [hidx]

end Cert.DenseIdeal

end
-- ==== Proof.DenseRefRows.lean ====
/- The dense feed-forward's reference, row by row. -/
module

public import proofs.«01_k».proof.Proof.Gen.DenseReferenceIdeal.Run
public import proofs.«01_k».proof.Proof.Gated

@[expose] public section

set_option maxRecDepth 16384

noncomputable section

namespace Cert.DenseReferenceIdeal

open Idealize.ShloMosaic Idealize.ShloMosaic.TcCoe Idealize.SL.Sem
open Cert.DenseReferenceIdeal.Gen Cert.DenseReferenceIdeal.Value

/-! ## The stages, over any arrays -/

/-- The hidden rows: normed, scaled and shifted. -/
def normed (x : FVec Ideal S1x16384x1024 .f32) (sh sc : FVec Ideal S1x1x1024 .f32) (g : FVec Ideal S1024 .f32) : FVec Ideal S1x16384x1024 .f32 :=
  let mean := Host.divf (broadcastInDim S1x16384x1 ![0, 1] bcast_S1x16384_S1x16384x1_0_1 (Host.reduceAdd (mulf x x) (constant S_ .f32 0x00000000#32) reducesTo_S1x16384x1024_S1x16384_d2 h_S_))
    (broadcastInDim S1x16384x1 ![] bcast_S_S1x16384x1 (constant S_ .f32 0x44800000#32))
  let root := Host.rsqrt (addf mean (broadcastInDim S1x16384x1 ![] bcast_S_S1x16384x1 (constant S_ .f32 0x358637BD#32)))
  let gain := broadcastInDim S1x16384x1024 ![0, 1, 2] bcast_S1x1x1024_S1x16384x1024_0_1_2 (broadcastInDim S1x1x1024 ![2] bcast_S1024_S1x1x1024_2 g)
  addf (mulf (mulf (mulf x (broadcastInDim S1x16384x1024 ![0, 1, 2] bcast_S1x16384x1_S1x16384x1024_0_1_2 root)) gain)
      (broadcastInDim S1x16384x1024 ![0, 1, 2] bcast_S1x1x1024_S1x16384x1024_0_1_2 (addf (broadcastInDim S1x1x1024 ![] bcast_S_S1x1x1024 (constant S_ .f32 0x3F800000#32)) sc)))
    (broadcastInDim S1x16384x1024 ![0, 1, 2] bcast_S1x1x1024_S1x16384x1024_0_1_2 sh)

/-- A first product, and the activation of it. -/
def wide (h : FVec Ideal S1x16384x1024 .f32) (w : FVec Ideal S1024x2816 .f32) : FVec Ideal S1x16384x2816 .f32 :=
  Host.dotGeneral dot_S1x16384x1024_S1024x2816_S1x16384x2816_2_0_01_1_n_n none h w

def silu (a : FVec Ideal S1x16384x2816 .f32) : FVec Ideal S1x16384x2816 .f32 :=
  mulf a (Host.divf (broadcastInDim S1x16384x2816 ![] bcast_S_S1x16384x2816 (constant S_ .f32 0x3F800000#32))
    (addf (broadcastInDim S1x16384x2816 ![] bcast_S_S1x16384x2816 (constant S_ .f32 0x3F800000#32)) (Host.exp (Host.negf a))))

/-- The rows that leave the layer. -/
def rows (x : FVec Ideal S1x16384x1024 .f32) (g2 : FVec Ideal S1x1x1024 .f32) (a b : FVec Ideal S1x16384x2816 .f32) (wd : FVec Ideal S2816x1024 .f32) :
    FVec Ideal S16384x1024 .f32 :=
  shapeCast _ (addf x (mulf (broadcastInDim S1x16384x1024 ![0, 1, 2] bcast_S1x1x1024_S1x16384x1024_0_1_2 g2)
    (Host.dotGeneral dot_S1x16384x2816_S2816x1024_S1x16384x1024_2_0_01_1_n_n none (mulf (silu a) b) wd))) shapeCasts_S1x16384x1024_S16384x1024

theorem normed_apply (x : FVec Ideal S1x16384x1024 .f32) (sh sc : FVec Ideal S1x1x1024 .f32) (g : FVec Ideal S1024 .f32) (R : Fin 16384) (k : Fin 1024) :
    normed x sh sc g (ix3 0 R k) = Moe.hidden (fun k => x (ix3 0 R k)) (fun k => g (ix1 k)) (fun k => sc (ix3 0 0 k)) (fun k => sh (ix3 0 0 k)) k := by
  unfold Moe.hidden Moe.norm Moe.width Moe.eps
  pointwise [normed]

theorem wide_apply (h : FVec Ideal S1x16384x1024 .f32) (w : FVec Ideal S1024x2816 .f32) (R : Fin 16384) (f : Fin 2816) :
    wide h w (ix3 0 R f) = ∑ k : Fin 1024, h (ix3 0 R k) * w (ix2 k f) := by
  pointwise [wide]

theorem silu_apply (a : FVec Ideal S1x16384x2816 .f32) (R : Fin 16384) (f : Fin 2816) : silu a (ix3 0 R f) = a (ix3 0 R f) * Ideal.logistic (a (ix3 0 R f)) := by
  pointwise [silu]
  rfl

theorem rows_apply (x : FVec Ideal S1x16384x1024 .f32) (g2 : FVec Ideal S1x1x1024 .f32) (h : FVec Ideal S1x16384x1024 .f32) (wg wu : FVec Ideal S1024x2816 .f32)
    (wd : FVec Ideal S2816x1024 .f32) (R : Fin 16384) (l : Fin 1024) : rows x g2 (wide h wg) (wide h wu) wd (ix2 R l)
      = Gated.row (fun l => x (ix3 0 R l)) (fun l => g2 (ix3 0 0 l)) (fun k => h (ix3 0 R k)) (fun k f => wg (ix2 k f)) (fun k f => wu (ix2 k f))
          (fun f l => wd (ix2 f l)) l := by
  unfold Gated.row Gated.term
  pointwise [rows]
  simp only [silu_apply, wide_apply]

/-! ## The result -/

section
variable (m : (ℓ : Loc nD τ sig) → Buf (Elt Ideal) ℓ) (c : Dev nD)

/-! The arguments as arrays of extended reals. -/

abbrev argX : FVec Ideal S1x16384x1024 .f32 := m ((c.tc : Thread nD τ).loc main_arg0)
abbrev argSh : FVec Ideal S1x1x1024 .f32 := m ((c.tc : Thread nD τ).loc main_arg1)
abbrev argSc : FVec Ideal S1x1x1024 .f32 := m ((c.tc : Thread nD τ).loc main_arg2)
abbrev argG2 : FVec Ideal S1x1x1024 .f32 := m ((c.tc : Thread nD τ).loc main_arg3)
abbrev argNg : FVec Ideal S1024 .f32 := m ((c.tc : Thread nD τ).loc main_arg4)
abbrev argWg : FVec Ideal S1024x2816 .f32 := m ((c.tc : Thread nD τ).loc main_arg5)
abbrev argWu : FVec Ideal S1024x2816 .f32 := m ((c.tc : Thread nD τ).loc main_arg6)
abbrev argWd : FVec Ideal S2816x1024 .f32 := m ((c.tc : Thread nD τ).loc main_arg7)

/-- The hidden rows of the arguments, and the rows that leave the layer. -/
def hid : FVec Ideal S1x16384x1024 .f32 := normed (argX m c) (argSh m c) (argSc m c) (argNg m c)
def outY : FVec Ideal S16384x1024 .f32 := rows (argX m c) (argG2 m c) (wide (hid m c) (argWg m c)) (wide (hid m c) (argWu m c)) (argWd m c)

/-- The result is these rows, -/
theorem res_stages : res_main_v27 m c = outY m c := by
  unfold res_main_v27
  rfl

/-- each of them the token's row. -/
theorem out_at (R : Fin 16384) (l : Fin 1024) : outY m c (ix2 R l)
    = Gated.row (fun l => argX m c (ix3 0 R l)) (fun l => argG2 m c (ix3 0 0 l))
        (Moe.hidden (fun k => argX m c (ix3 0 R k)) (fun k => argNg m c (ix1 k)) (fun k => argSc m c (ix3 0 0 k)) (fun k => argSh m c (ix3 0 0 k)))
        (fun k f => argWg m c (ix2 k f)) (fun k f => argWu m c (ix2 k f)) (fun f l => argWd m c (ix2 f l)) l := by
  unfold outY
  rw [rows_apply]
  refine congrArg (fun h => Gated.row _ _ h _ _ _ l) (funext fun k => ?_)
  exact normed_apply _ _ _ _ R k

end

/-- The run leaves them. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = outY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_stages m c), (h c).2⟩) (run (F := Ideal) m ρ)

end Cert.DenseReferenceIdeal

end
-- ==== Proof.Branch.lean ====
/- The merge of a token's three branches, over the extended reals and over no program: each branch's output through its own matrix,
   the three weighted by the token's gates, through one more matrix and added to the token's row under a gain. -/
module

public import Idealize.ShloMosaic.PureOps.Ideal
public import Idealize.ShloMosaic.Lib.Pointwise
public import Idealize.ShloMosaic.Lib.Pipeline.ValueKit

@[expose] public section

noncomputable section

namespace Cert.Branch

open Idealize.ShloMosaic

/-- The three branches, each through its matrix, weighted: a token has 1024 gates for each branch, one branch after another. -/
def mixed (gate : Fin 3072 → EReal) (ya yb : Fin 256 → EReal) (yc : Fin 512 → EReal) (wa wb : Fin 256 → Fin 1024 → EReal) (wc : Fin 512 → Fin 1024 → EReal)
    (k : Fin 1024) : EReal :=
  gate ⟨k.val, by omega⟩ * (∑ j, ya j * wa j k) + gate ⟨1024 + k.val, by omega⟩ * (∑ j, yb j * wb j k) + gate ⟨2048 + k.val, by omega⟩ * (∑ j, yc j * wc j k)

/-- The row with the mixed row's product added under a gain. -/
def row (x g : Fin 1024 → EReal) (mix : Fin 1024 → EReal) (wo : Fin 1024 → Fin 1024 → EReal) (l : Fin 1024) : EReal :=
  x l + g l * ∑ k, mix k * wo k l

end Cert.Branch

end
-- ==== Proof.MergeRows.lean ====
/- The merge kernel, row by row: its operands when its call starts, the blocks of a point, the result's block and the result array. -/
module

public import proofs.«01_k».proof.Proof.Gen.MergeIdeal.Value
public import proofs.«01_k».proof.Proof.Branch
public import Idealize.ShloMosaic.Lib.Claim

@[expose] public section

set_option maxRecDepth 16384

noncomputable section

namespace Cert.MergeIdeal

open Idealize.ShloMosaic Idealize.ShloMosaic.TcCoe Idealize.SL.Sem
open Cert.MergeIdeal.Gen Cert.MergeIdeal.Value

variable (m : (ℓ : Loc nD τ sig) → Buf (Elt Ideal) ℓ) (c : Dev nD)

/-! The arguments as arrays of extended reals. -/

abbrev argX : FVec Ideal S1x16384x1024 .f32 := m ((c : Thread nD τ).loc main_arg0)
abbrev argYa : FVec Ideal S16384x256 .bf16 := m ((c : Thread nD τ).loc main_arg1)
abbrev argYb : FVec Ideal S16384x256 .bf16 := m ((c : Thread nD τ).loc main_arg2)
abbrev argYc : FVec Ideal S16384x512 .bf16 := m ((c : Thread nD τ).loc main_arg3)
abbrev argGate : FVec Ideal S16384x3072 .f32 := m ((c : Thread nD τ).loc main_arg4)
abbrev argG : FVec Ideal S1x1x1024 .f32 := m ((c : Thread nD τ).loc main_arg5)
abbrev argWa : FVec Ideal S256x1024 .f32 := m ((c : Thread nD τ).loc main_arg6)
abbrev argWb : FVec Ideal S256x1024 .f32 := m ((c : Thread nD τ).loc main_arg7)
abbrev argWc : FVec Ideal S512x1024 .f32 := m ((c : Thread nD τ).loc main_arg8)
abbrev argWo : FVec Ideal S1024x1024 .f32 := m ((c : Thread nD τ).loc main_arg9)

/-- The token's mixed row, -/
def mix (R : Fin 16384) : Fin 1024 → EReal :=
  Branch.mixed (fun n => argGate m c (ix2 R n)) (fun j => argYa m c (ix2 R j)) (fun j => argYb m c (ix2 R j)) (fun j => argYc m c (ix2 R j))
    (fun j k => argWa m c (ix2 j k)) (fun j k => argWb m c (ix2 j k)) (fun j k => argWc m c (ix2 j k))

/-- and the row that leaves the call. -/
def merged (R : Fin 16384) : Fin 1024 → EReal :=
  Branch.row (fun l => argX m c (ix3 0 R l)) (fun l => argG m c (ix3 0 0 l)) (mix m c R) (fun k l => argWo m c (ix2 k l))

/-- The block numbers of the windows that move with the point, of those that stay, and of the result's. -/
theorem block_moving : ∀ t : Fin cfg0.N, win0_0.index t = ![t.val, 0] ∧ win0_1.index t = ![t.val, 0] ∧ win0_2.index t = ![t.val, 0]
    ∧ win0_3.index t = ![t.val, 0] ∧ win0_4.index t = ![t.val, 0] := by decide +kernel

theorem block_fixed : ∀ t : Fin cfg0.N, win0_5.index t = ![0, 0] ∧ win0_6.index t = ![0, 0] ∧ win0_7.index t = ![0, 0]
    ∧ win0_8.index t = ![0, 0] ∧ win0_9.index t = ![0, 0] := by decide +kernel

theorem out_blocks : ∀ t : Fin cfg0.N, win0_10.index t = ![t.val, 0] := by decide +kernel

/-- Every point writes back. -/
theorem out_flush : ∀ t : Fin cfg0.N, (cfg0.win 10).flush t = true := by decide +kernel

/-! What the operands hold when the call starts. -/

theorem V_x : V m c main_v4 = shapeCast S16384x1024 (argX m c) shapeCasts_S1x16384x1024_S16384x1024 := by
  simp only [V, List.flatten_cons, List.flatten_nil, List.cons_append, List.nil_append]
  entry_read
  rfl

theorem V_g : V m c main_v5 = shapeCast S1x1024 (argG m c) shapeCasts_S1x1x1024_S1x1024 := by
  simp only [V, List.flatten_cons, List.flatten_nil, List.cons_append, List.nil_append]
  entry_read
  rfl

theorem V_rows : V m c main_arg1 = argYa m c ∧ V m c main_arg2 = argYb m c ∧ V m c main_arg3 = argYc m c ∧ V m c main_arg4 = argGate m c := by
  refine ⟨?_, ?_, ?_, ?_⟩ <;>
  · simp only [V, List.flatten_cons, List.flatten_nil, List.cons_append, List.nil_append]
    entry_read
    rfl

theorem V_mats : V m c main_v0 = truncf .bf16 (argWa m c) bitsLt_bf16_f32 ∧ V m c main_v1 = truncf .bf16 (argWb m c) bitsLt_bf16_f32
    ∧ V m c main_v2 = truncf .bf16 (argWc m c) bitsLt_bf16_f32 ∧ V m c main_v3 = truncf .bf16 (argWo m c) bitsLt_bf16_f32 := by
  refine ⟨?_, ?_, ?_, ?_⟩ <;>
  · simp only [V, List.flatten_cons, List.flatten_nil, List.cons_append, List.nil_append]
    entry_read
    rfl

/-! The blocks of a point, element by element. -/

section
variable (t : Fin cfg0.N) (r : Fin 512) (R : Fin 16384) (hR : R.val = 512 * t.val + r.val)
include hR

theorem blk_x (k : Fin 1024) : iblk m c 0 t (ix2 r k) = argX m c (ix3 0 R k) := by
  have hi := (block_moving t).1
  blk_simp [iblk]
  rw [V_x]
  pointwise
  blk_ext [hi, hR]

theorem blk_ya (j : Fin 256) : iblk m c 1 t (ix2 r j) = argYa m c (ix2 R j) := by
  have hi := (block_moving t).2.1
  blk_simp [iblk]
  rw [(V_rows m c).1]
  blk_ext [hi, hR]

theorem blk_yb (j : Fin 256) : iblk m c 2 t (ix2 r j) = argYb m c (ix2 R j) := by
  have hi := (block_moving t).2.2.1
  blk_simp [iblk]
  rw [(V_rows m c).2.1]
  blk_ext [hi, hR]

theorem blk_yc (j : Fin 512) : iblk m c 3 t (ix2 r j) = argYc m c (ix2 R j) := by
  have hi := (block_moving t).2.2.2.1
  blk_simp [iblk]
  rw [(V_rows m c).2.2.1]
  blk_ext [hi, hR]

theorem blk_gate (n : Fin 3072) : iblk m c 4 t (ix2 r n) = argGate m c (ix2 R n) := by
  have hi := (block_moving t).2.2.2.2
  blk_simp [iblk]
  rw [(V_rows m c).2.2.2]
  blk_ext [hi, hR]

end

section
variable (t : Fin cfg0.N)

theorem blk_wa (j : Fin 256) (k : Fin 1024) : iblk m c 5 t (ix2 j k) = argWa m c (ix2 j k) := by
  have hi := block_fixed t
  blk_simp [iblk]
  rw [(V_mats m c).1]
  pointwise
  blk_ext [hi]

theorem blk_wb (j : Fin 256) (k : Fin 1024) : iblk m c 6 t (ix2 j k) = argWb m c (ix2 j k) := by
  have hi := block_fixed t
  blk_simp [iblk]
  rw [(V_mats m c).2.1]
  pointwise
  blk_ext [hi]

theorem blk_wc (j : Fin 512) (k : Fin 1024) : iblk m c 7 t (ix2 j k) = argWc m c (ix2 j k) := by
  have hi := block_fixed t
  blk_simp [iblk]
  rw [(V_mats m c).2.2.1]
  pointwise
  blk_ext [hi]

theorem blk_wo (j : Fin 1024) (k : Fin 1024) : iblk m c 8 t (ix2 j k) = argWo m c (ix2 j k) := by
  have hi := block_fixed t
  blk_simp [iblk]
  rw [(V_mats m c).2.2.2]
  pointwise
  blk_ext [hi]

theorem blk_g (k : Fin 1024) : iblk m c 9 t (ix2 0 k) = argG m c (ix3 0 0 k) := by
  have hi := block_fixed t
  blk_simp [iblk]
  rw [V_g]
  pointwise
  blk_ext [hi]

end

/-- The result's block of a point. -/
theorem out_block (t : Fin cfg0.N) (r : Fin 512) (R : Fin 16384) (hR : R.val = 512 * t.val + r.val) (l : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r l)
      = merged m c R l := by
  unfold out0_10
  canon_tiles x h
  idx_vars x
  obtain rfl := Fin.ext h0
  obtain rfl := Fin.ext h1
  pointwise [k0_pay1]
  simp only [blk_x m c t _ R hR, blk_ya m c t _ R hR, blk_yb m c t _ R hR, blk_yc m c t _ R hR, blk_gate m c t _ R hR, blk_wa m c t, blk_wb m c t, blk_wc m c t,
    blk_wo m c t, blk_g m c t]
  rfl

/-! ## The result array -/

/-- The result array after the last point. -/
def outY : FVec Ideal S16384x1024 .f32 := (dats m 0 c).arrAt 10 cfg0.N

/-- The run leaves it. -/
theorem run_outs (ρ : Dev nD → PrngReg) : θ_run defs (onTc (τ := τ) (main (F := Ideal))) ⟨m, fun _ => 0, ρ⟩ fun r => ∀ c : Dev nD,
      r.2.mem ((c : Thread nD τ).loc main_v6) = outY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => h c) (run_blocks (F := Ideal) m ρ)

/-- A row of the result is the merged row: the point that holds the row writes it back. -/
theorem out_at (R : Fin 16384) (l : Fin 1024) : outY m c (ix2 R l) = merged m c R l := by
  obtain ⟨t, r, hR⟩ : ∃ (t : Fin cfg0.N) (r : Fin 512), R.val = 512 * t.val + r.val :=
    ⟨⟨R.val / 512, (show R.val / 512 < 32 by omega)⟩, ⟨R.val % 512, by omega⟩, by simp only []; omega⟩
  have hidx := out_blocks t
  have h := congrFun ((blocks10 m c t (out_flush t)).trans (flushed10 m c t)) (ix2 r l)
  refine Eq.trans ?_ (h.trans (out_block m c t r R hR l))
  unfold outY
  generalize (dats m 0 c).arrAt 10 cfg0.N = A
  blk_ext [hidx]

end Cert.MergeIdeal

end
-- ==== Proof.MergeRefRows.lean ====
/- The merge's reference, row by row. -/
module

public import proofs.«01_k».proof.Proof.Gen.MergeReferenceIdeal.Run
public import proofs.«01_k».proof.Proof.Branch

@[expose] public section

set_option maxRecDepth 16384

noncomputable section

namespace Cert.MergeReferenceIdeal

open Idealize.ShloMosaic Idealize.ShloMosaic.TcCoe Idealize.SL.Sem
open Cert.MergeReferenceIdeal.Gen Cert.MergeReferenceIdeal.Value

/-! ## The stages, over any arrays -/

/-- The mixed branches. -/
def mixed (ga gb gc : FVec Ideal S16384x1024 .f32) (ya yb : FVec Ideal S16384x256 .bf16) (yc : FVec Ideal S16384x512 .bf16) (wa wb : FVec Ideal S256x1024 .f32)
    (wc : FVec Ideal S512x1024 .f32) : FVec Ideal S16384x1024 .f32 :=
  addf (addf (mulf ga (Host.dotGeneral dot_S16384x256_S256x1024_S16384x1024_1_0_0_1_n_n none (extf .f32 ya bitsLt_bf16_f32) wa))
    (mulf gb (Host.dotGeneral dot_S16384x256_S256x1024_S16384x1024_1_0_0_1_n_n none (extf .f32 yb bitsLt_bf16_f32) wb)))
    (mulf gc (Host.dotGeneral dot_S16384x512_S512x1024_S16384x1024_1_0_0_1_n_n none (extf .f32 yc bitsLt_bf16_f32) wc))

/-- The gates of each branch. -/
def gateA (g : FVec Ideal S16384x3072 .f32) : FVec Ideal S16384x1024 .f32 :=
  shapeCast _ (extractStridedSlice S16384x1x1024 ![0, 0, 0] (shapeCast _ g shapeCasts_S16384x3072_S16384x3x1024) slices_S16384x3x1024_S16384x1x1024_0_0_0) shapeCasts_S16384x1x1024_S16384x1024
def gateB (g : FVec Ideal S16384x3072 .f32) : FVec Ideal S16384x1024 .f32 :=
  shapeCast _ (extractStridedSlice S16384x1x1024 ![0, 1, 0] (shapeCast _ g shapeCasts_S16384x3072_S16384x3x1024) slices_S16384x3x1024_S16384x1x1024_0_1_0) shapeCasts_S16384x1x1024_S16384x1024
def gateC (g : FVec Ideal S16384x3072 .f32) : FVec Ideal S16384x1024 .f32 :=
  shapeCast _ (extractStridedSlice S16384x1x1024 ![0, 2, 0] (shapeCast _ g shapeCasts_S16384x3072_S16384x3x1024) slices_S16384x3x1024_S16384x1x1024_0_2_0) shapeCasts_S16384x1x1024_S16384x1024

/-- The rows that leave the merge. -/
def rows (x : FVec Ideal S1x16384x1024 .f32) (g : FVec Ideal S1x1x1024 .f32) (mix : FVec Ideal S16384x1024 .f32) (wo : FVec Ideal S1024x1024 .f32) :
    FVec Ideal S16384x1024 .f32 :=
  shapeCast _ (addf x (mulf (broadcastInDim S1x16384x1024 ![0, 1, 2] bcast_S1x1x1024_S1x16384x1024_0_1_2 g)
    (broadcastInDim S1x16384x1024 ![1, 2] bcast_S16384x1024_S1x16384x1024_1_2 (Host.dotGeneral dot_S16384x1024_S1024x1024_S16384x1024_1_0_0_1_n_n none mix wo))))
    shapeCasts_S1x16384x1024_S16384x1024

theorem gateA_apply (g : FVec Ideal S16384x3072 .f32) (R : Fin 16384) (k : Fin 1024) : gateA g (ix2 R k) = g (ix2 R ⟨k.val, by omega⟩) := by
  pointwise [gateA]

theorem gateB_apply (g : FVec Ideal S16384x3072 .f32) (R : Fin 16384) (k : Fin 1024) : gateB g (ix2 R k) = g (ix2 R ⟨1024 + k.val, by omega⟩) := by
  pointwise [gateB]

theorem gateC_apply (g : FVec Ideal S16384x3072 .f32) (R : Fin 16384) (k : Fin 1024) : gateC g (ix2 R k) = g (ix2 R ⟨2048 + k.val, by omega⟩) := by
  pointwise [gateC]

theorem mixed_apply (g : FVec Ideal S16384x3072 .f32) (ya yb : FVec Ideal S16384x256 .bf16) (yc : FVec Ideal S16384x512 .bf16) (wa wb : FVec Ideal S256x1024 .f32)
    (wc : FVec Ideal S512x1024 .f32) (R : Fin 16384) (k : Fin 1024) : mixed (gateA g) (gateB g) (gateC g) ya yb yc wa wb wc (ix2 R k)
      = Branch.mixed (fun n => g (ix2 R n)) (fun j => ya (ix2 R j)) (fun j => yb (ix2 R j)) (fun j => yc (ix2 R j)) (fun j k => wa (ix2 j k)) (fun j k => wb (ix2 j k))
          (fun j k => wc (ix2 j k)) k := by
  unfold Branch.mixed
  pointwise [mixed]
  rw [gateA_apply, gateB_apply, gateC_apply]

theorem rows_apply (x : FVec Ideal S1x16384x1024 .f32) (g : FVec Ideal S1x1x1024 .f32) (mix : FVec Ideal S16384x1024 .f32) (wo : FVec Ideal S1024x1024 .f32)
    (R : Fin 16384) (l : Fin 1024) : rows x g mix wo (ix2 R l)
      = Branch.row (fun l => x (ix3 0 R l)) (fun l => g (ix3 0 0 l)) (fun k => mix (ix2 R k)) (fun k l => wo (ix2 k l)) l := by
  unfold Branch.row
  pointwise [rows]

/-! ## The result -/

section
variable (m : (ℓ : Loc nD τ sig) → Buf (Elt Ideal) ℓ) (c : Dev nD)

/-! The arguments as arrays of extended reals. -/

abbrev argX : FVec Ideal S1x16384x1024 .f32 := m ((c.tc : Thread nD τ).loc main_arg0)
abbrev argYa : FVec Ideal S16384x256 .bf16 := m ((c.tc : Thread nD τ).loc main_arg1)
abbrev argYb : FVec Ideal S16384x256 .bf16 := m ((c.tc : Thread nD τ).loc main_arg2)
abbrev argYc : FVec Ideal S16384x512 .bf16 := m ((c.tc : Thread nD τ).loc main_arg3)
abbrev argGate : FVec Ideal S16384x3072 .f32 := m ((c.tc : Thread nD τ).loc main_arg4)
abbrev argG : FVec Ideal S1x1x1024 .f32 := m ((c.tc : Thread nD τ).loc main_arg5)
abbrev argWa : FVec Ideal S256x1024 .f32 := m ((c.tc : Thread nD τ).loc main_arg6)
abbrev argWb : FVec Ideal S256x1024 .f32 := m ((c.tc : Thread nD τ).loc main_arg7)
abbrev argWc : FVec Ideal S512x1024 .f32 := m ((c.tc : Thread nD τ).loc main_arg8)
abbrev argWo : FVec Ideal S1024x1024 .f32 := m ((c.tc : Thread nD τ).loc main_arg9)

/-- The mixed rows of the arguments, and the rows that leave the merge, -/
def mix : FVec Ideal S16384x1024 .f32 :=
  mixed (gateA (argGate m c)) (gateB (argGate m c)) (gateC (argGate m c)) (argYa m c) (argYb m c) (argYc m c) (argWa m c) (argWb m c) (argWc m c)
def outY : FVec Ideal S16384x1024 .f32 := rows (argX m c) (argG m c) (mix m c) (argWo m c)

/-- each of them the token's row. -/
theorem out_at (R : Fin 16384) (l : Fin 1024) : outY m c (ix2 R l)
    = Branch.row (fun l => argX m c (ix3 0 R l)) (fun l => argG m c (ix3 0 0 l))
        (Branch.mixed (fun n => argGate m c (ix2 R n)) (fun j => argYa m c (ix2 R j)) (fun j => argYb m c (ix2 R j)) (fun j => argYc m c (ix2 R j))
          (fun j k => argWa m c (ix2 j k)) (fun j k => argWb m c (ix2 j k)) (fun j k => argWc m c (ix2 j k)))
        (fun k l => argWo m c (ix2 k l)) l := by
  unfold outY
  rw [rows_apply]
  refine congrArg (fun h => Branch.row _ _ h _ l) (funext fun k => ?_)
  exact mixed_apply _ _ _ _ _ _ _ R k

end

/-- The run leaves them. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = outY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  run (F := Ideal) m ρ

end Cert.MergeReferenceIdeal

end
-- ==== Proof.lean ====
/- The certificate. The frames are the programs' own runs; the value claim puts the kernel's rows (Proof/Sweep.lean) beside the reference's
   (Proof/RefRows.lean) on memories agreeing on the arguments, under the precondition (Proof/Finite.lean). The projection's value claim puts its
   result arrays (Proof/ProjectOut.lean) beside its reference's (Proof/ProjectRefRows.lean), with no precondition; so do those of the dense
   feed-forward (Proof/DenseRows.lean, Proof/DenseRefRows.lean) and of the branches' merge (Proof/MergeRows.lean, Proof/MergeRefRows.lean). -/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Project.Frame
public import proofs.«01_k».proof.Proof.Gen.ProjectIdeal.Value
public import proofs.«01_k».proof.Proof.Gen.ProjectReferenceIdeal.Run
public import proofs.«01_k».proof.Proof.Gen.Dense.Frame
public import proofs.«01_k».proof.Proof.Gen.DenseIdeal.Value
public import proofs.«01_k».proof.Proof.Gen.DenseReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Finite
public import proofs.«01_k».proof.Proof.Sweep
public import proofs.«01_k».proof.Proof.RefRows
public import proofs.«01_k».proof.Proof.ProjectOut
public import proofs.«01_k».proof.Proof.ProjectRefRows
public import proofs.«01_k».proof.Proof.DenseRows
public import proofs.«01_k».proof.Proof.DenseRefRows
public import proofs.«01_k».proof.Proof.MergeRows
public import proofs.«01_k».proof.Proof.MergeRefRows
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs and stops, its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem quiescent_ReferenceIdeal_pre_finite : quiescent_ReferenceIdeal_pre_finite := fun m ρ _ =>
  quiescent_ReferenceIdeal m ρ trivial

/-- What the router reads is finite where the precondition holds. -/
theorem routed (m : (ℓ : Loc Cert.KernelIdeal.nD Cert.KernelIdeal.τ Cert.KernelIdeal.sig) → Buf (Elt Ideal) ℓ) (h : Pre_KernelIdeal_finite m)
    (c : Dev Cert.KernelIdeal.nD) : Cert.KernelIdeal.Routed m c := by
  obtain ⟨h1, h2, h4, h5, h6⟩ := Cert.Pre_finite.fn_isReal _ _ _ _ _ _ _ _ _ _ _ (fun a => a.elim0) (congrFun (h c) _)
  exact ⟨fun k => h4 _, fun k => h2 _, fun k => h1 _, fun k e => h5 _, fun e => h6 _⟩

/-- The kernel and the reference end with the same output on every device, whatever the finite-routing arguments. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hr := routed m hpre c
  obtain ⟨g0, g1, g2, g3, g4, g5, g6, g7, g8, g9, g10⟩ := hagree c
  have x0 : Cert.ReferenceIdeal.aX (StableHlo.launchContents m' c) = Cert.KernelIdeal.argX m c := g0
  have x1 : Cert.ReferenceIdeal.aSh (StableHlo.launchContents m' c) = Cert.KernelIdeal.argSh m c := g1
  have x2 : Cert.ReferenceIdeal.aSc (StableHlo.launchContents m' c) = Cert.KernelIdeal.argSc m c := g2
  have x3 : Cert.ReferenceIdeal.aG2 (StableHlo.launchContents m' c) = Cert.KernelIdeal.argG2 m c := g3
  have x4 : Cert.ReferenceIdeal.aNg (StableHlo.launchContents m' c) = Cert.KernelIdeal.argNg m c := g4
  have x5 : Cert.ReferenceIdeal.aRw (StableHlo.launchContents m' c) = Cert.KernelIdeal.argRw m c := g5
  have x6 : Cert.ReferenceIdeal.aRb (StableHlo.launchContents m' c) = Cert.KernelIdeal.argRb m c := g6
  have x7 : Cert.ReferenceIdeal.aWg (StableHlo.launchContents m' c) = Cert.KernelIdeal.argWg m c := g7
  have x8 : Cert.ReferenceIdeal.aWu (StableHlo.launchContents m' c) = Cert.KernelIdeal.argWu m c := g8
  have x9 : Cert.ReferenceIdeal.aWd (StableHlo.launchContents m' c) = Cert.KernelIdeal.argWd m c := g9
  have x10 : Cert.ReferenceIdeal.aFg (StableHlo.launchContents m' c) = Cert.KernelIdeal.argFg m c := g10
  have hh : Cert.ReferenceIdeal.hid (StableHlo.launchContents m' c) = Cert.KernelIdeal.hrow m c := by
    funext R
    simp only [Cert.ReferenceIdeal.hid, x0, x4, x2, x1]
    rfl
  have hl : Cert.ReferenceIdeal.log (StableHlo.launchContents m' c) = Cert.KernelIdeal.lrow m c := by
    funext R
    simp only [Cert.ReferenceIdeal.log, hh, x5, x6]
    rfl
  funext i
  obtain ⟨R, l, rfl⟩ : ∃ (R : Fin 16384) (l : Fin 1024), i = ix2 R l := ⟨i 0, i 1, by funext a; match a with | ⟨0, _⟩ => rfl | ⟨1, _⟩ => rfl⟩
  refine (Cert.ReferenceIdeal.reference_out (StableHlo.launchContents m' c) (fun R e => by rw [hl]; exact hr.lrow R e) R l).trans ?_
  refine Eq.trans ?_ (Cert.KernelIdeal.kernel_out m c hr R l).symm
  rw [hh, hl, x0, x3, x7, x8, x9, x10]
  rfl

/-- The projection's reference runs and stops, its arguments as they were. -/
theorem quiescent_ProjectReferenceIdeal : quiescent_ProjectReferenceIdeal := fun m ρ _ =>
  (θ_run Cert.ProjectReferenceIdeal.defs _ _).mono (fun r h => ⟨fun c => (h c).2.2.2.2.2.2.2, sem_eq_zero_of_no_sems (by decide) r.2⟩)
    (Cert.ProjectReferenceIdeal.Value.run (F := Ideal) m ρ)

section Project

variable (m : (ℓ : Loc Cert.ProjectIdeal.nD Cert.ProjectIdeal.τ Cert.ProjectIdeal.sig) → Buf (Elt Ideal) ℓ)
  (m' : (ℓ : Loc Cert.ProjectReferenceIdeal.nD Cert.ProjectReferenceIdeal.τ Cert.ProjectReferenceIdeal.sig) → Buf (Elt Ideal) ℓ)
  (c : Dev Cert.ProjectIdeal.nD)

/-- On the same arguments the two programs mean the same by a column of a row, and so by queries, keys and forget gates. -/
theorem same_columns (x0 : Cert.ProjectReferenceIdeal.argX m' c = Cert.ProjectIdeal.argX m c) (x1 : Cert.ProjectReferenceIdeal.argSh m' c = Cert.ProjectIdeal.argSh m c)
    (x2 : Cert.ProjectReferenceIdeal.argSc m' c = Cert.ProjectIdeal.argSc m c) (x3 : Cert.ProjectReferenceIdeal.argNg m' c = Cert.ProjectIdeal.argNg m c)
    (x4 : Cert.ProjectReferenceIdeal.argW m' c = Cert.ProjectIdeal.argW m c) (R : Fin 16384) :
    Cert.ProjectReferenceIdeal.colOf m' c R = Cert.Rotary.col (Cert.ProjectIdeal.hrow m c R) (Cert.ProjectIdeal.mat m c) := by
  unfold Cert.ProjectReferenceIdeal.colOf Cert.ProjectIdeal.hrow Cert.ProjectIdeal.mat
  rw [x0, x1, x2, x3, x4]

variable (h : ∀ R, Cert.ProjectReferenceIdeal.colOf m' c R = Cert.Rotary.col (Cert.ProjectIdeal.hrow m c R) (Cert.ProjectIdeal.mat m c))
include h

theorem same_queries (R : Fin 16384) : Cert.ProjectReferenceIdeal.queries m' c R = Cert.ProjectIdeal.queries m c R := by
  unfold Cert.ProjectReferenceIdeal.queries Cert.ProjectIdeal.queries
  rw [h]

theorem same_keys (R : Fin 16384) : Cert.ProjectReferenceIdeal.keys m' c R = Cert.ProjectIdeal.keys m c R := by
  unfold Cert.ProjectReferenceIdeal.keys Cert.ProjectIdeal.keys
  rw [h]

theorem same_forget (x5 : Cert.ProjectReferenceIdeal.argBf m' c = Cert.ProjectIdeal.argBf m c) (R : Fin 16384) (e : Fin 8) :
    Cert.ProjectReferenceIdeal.forget m' c R e = Cert.ProjectIdeal.forget m c R e := by
  unfold Cert.ProjectReferenceIdeal.forget Cert.ProjectIdeal.forget
  rw [h, x5]

/-- The scaled queries agree, -/
theorem same_qh :
    Eq (α := FVec Ideal Cert.ProjectReferenceIdeal.S8x16384x128 .bf16) (Cert.ProjectReferenceIdeal.Value.res_main_v130 m' c) (Cert.ProjectIdeal.outQh m c) := by
  funext i
  obtain ⟨p, R, l, rfl⟩ : ∃ (p : Fin 8) (R : Fin 16384) (l : Fin 128), i = ix3 p R l :=
    ⟨i 0, i 1, i 2, by funext a; match a with | ⟨0, _⟩ => rfl | ⟨1, _⟩ => rfl | ⟨2, _⟩ => rfl⟩
  refine (Cert.ProjectReferenceIdeal.v130_apply m' c p R l).trans ?_
  rw [same_queries m m' c h]
  exact (Cert.ProjectIdeal.qh_at m c p R l).symm

/-- the rows of keys, -/
theorem same_k_rows :
    Eq (α := FVec Ideal Cert.ProjectReferenceIdeal.S16384x1024 .f32) (Cert.ProjectReferenceIdeal.Value.res_main_v131 m' c) (Cert.ProjectIdeal.outK m c) := by
  funext i
  obtain ⟨R, n, rfl⟩ : ∃ (R : Fin 16384) (n : Fin 1024), i = ix2 R n := ⟨i 0, i 1, by funext a; match a with | ⟨0, _⟩ => rfl | ⟨1, _⟩ => rfl⟩
  refine (Cert.ProjectReferenceIdeal.v131_apply m' c R n).trans ?_
  rw [same_keys m m' c h]
  exact (Cert.ProjectIdeal.k_rows_at m c R n).symm

/-- the rows of values, -/
theorem same_v_rows :
    Eq (α := FVec Ideal Cert.ProjectReferenceIdeal.S16384x1024 .f32) (Cert.ProjectReferenceIdeal.vRows m' c) (Cert.ProjectIdeal.outV m c) := by
  funext i
  obtain ⟨R, n, rfl⟩ : ∃ (R : Fin 16384) (n : Fin 1024), i = ix2 R n := ⟨i 0, i 1, by funext a; match a with | ⟨0, _⟩ => rfl | ⟨1, _⟩ => rfl⟩
  refine (Cert.ProjectReferenceIdeal.vRows_apply m' c R n).trans ?_
  rw [h]
  exact (Cert.ProjectIdeal.v_rows_at m c R n).symm

/-- the logs of the forget gates, -/
theorem same_lf (x5 : Cert.ProjectReferenceIdeal.argBf m' c = Cert.ProjectIdeal.argBf m c) :
    Eq (α := FVec Ideal Cert.ProjectReferenceIdeal.S8x16384 .f32) (Cert.ProjectReferenceIdeal.Value.res_main_v134 m' c) (Cert.ProjectIdeal.outLf m c) := by
  funext i
  obtain ⟨e, R, rfl⟩ : ∃ (e : Fin 8) (R : Fin 16384), i = ix2 e R := ⟨i 0, i 1, by funext a; match a with | ⟨0, _⟩ => rfl | ⟨1, _⟩ => rfl⟩
  refine (Cert.ProjectReferenceIdeal.v134_apply m' c R e).trans ?_
  rw [same_forget m m' c h x5]
  exact (Cert.ProjectIdeal.lf_at m c R e).symm

/-- the output gates, -/
theorem same_gates :
    Eq (α := FVec Ideal Cert.ProjectReferenceIdeal.S16384x3072 .f32) (Cert.ProjectReferenceIdeal.gates m' c) (Cert.ProjectIdeal.outGates m c) := by
  funext i
  obtain ⟨R, n, rfl⟩ : ∃ (R : Fin 16384) (n : Fin 3072), i = ix2 R n := ⟨i 0, i 1, by funext a; match a with | ⟨0, _⟩ => rfl | ⟨1, _⟩ => rfl⟩
  refine (Cert.ProjectReferenceIdeal.gates_apply m' c R n).trans ?_
  rw [h]
  exact (Cert.ProjectIdeal.gates_at m c R n).symm

/-- the turning heads' queries, -/
theorem same_qc :
    Eq (α := FVec Ideal Cert.ProjectReferenceIdeal.S16384x512 .f32) (Cert.ProjectReferenceIdeal.Value.res_main_v144 m' c) (Cert.ProjectIdeal.outQc m c) := by
  funext i
  obtain ⟨R, n, rfl⟩ : ∃ (R : Fin 16384) (n : Fin 512), i = ix2 R n := ⟨i 0, i 1, by funext a; match a with | ⟨0, _⟩ => rfl | ⟨1, _⟩ => rfl⟩
  refine (Cert.ProjectReferenceIdeal.v144_apply m' c R n).trans ?_
  rw [same_queries m m' c h]
  exact (Cert.ProjectIdeal.qc_at m c R n).symm

/-- and the means of the turning heads' keys. -/
theorem same_kmean :
    Eq (α := FVec Ideal Cert.ProjectReferenceIdeal.S32x2x512 .f32) (Cert.ProjectReferenceIdeal.Value.res_main_v145 m' c) (Cert.ProjectIdeal.outMean m c) := by
  funext i
  obtain ⟨b, j, n, rfl⟩ : ∃ (b : Fin 32) (j : Fin 2) (n : Fin 512), i = ix3 b j n :=
    ⟨i 0, i 1, i 2, by funext a; match a with | ⟨0, _⟩ => rfl | ⟨1, _⟩ => rfl | ⟨2, _⟩ => rfl⟩
  have hRj : ∀ k : Fin 256, (⟨512 * b.val + (256 * j.val + k.val), by omega⟩ : Fin 16384).val = 512 * b.val + (256 * j.val + k.val) := fun _ => rfl
  refine (Cert.ProjectReferenceIdeal.v145_apply m' c b j n _ hRj).trans ?_
  simp only [same_keys m m' c h]
  exact (Cert.ProjectIdeal.kmean_at m c b j n _ hRj).symm

end Project

/-- The projection and its reference end with the same seven results on every device. -/
theorem algebraic_ProjectIdeal_ProjectReferenceIdeal : algebraic_ProjectIdeal_ProjectReferenceIdeal := by
  intro m ρ m' ρ' _ hagree
  refine ⟨Cert.ProjectIdeal.outQh m, Cert.ProjectIdeal.outK m, Cert.ProjectIdeal.outV m, Cert.ProjectIdeal.outLf m, Cert.ProjectIdeal.outGates m,
    Cert.ProjectIdeal.outQc m, Cert.ProjectIdeal.outMean m, Cert.ProjectIdeal.run_outs m ρ, ?_⟩
  refine (θ_run Cert.ProjectReferenceIdeal.defs _ _).mono (fun _ h c => ?_) (Cert.ProjectReferenceIdeal.run_stages m' ρ')
  obtain ⟨h0, h1, h2, h3, h4, h5, h6, ha⟩ := h c
  obtain ⟨g0, g1, g2, g3, g4, g5⟩ := hagree c
  have hc := same_columns m m' c g0 g1 g2 g3 g4
  exact ⟨h0.trans (same_qh m m' c hc), h1.trans (same_k_rows m m' c hc), h2.trans (same_v_rows m m' c hc), h3.trans (same_lf m m' c hc g5),
    h4.trans (same_gates m m' c hc), h5.trans (same_qc m m' c hc), h6.trans (same_kmean m m' c hc), ha⟩

/-- The dense feed-forward's reference runs and stops, its arguments as they were. -/
theorem quiescent_DenseReferenceIdeal : quiescent_DenseReferenceIdeal := fun m ρ _ =>
  (θ_run Cert.DenseReferenceIdeal.defs _ _).mono (fun r h => ⟨fun c => (h c).2, sem_eq_zero_of_no_sems (by decide) r.2⟩)
    (Cert.DenseReferenceIdeal.Value.run (F := Ideal) m ρ)

/-- On the same arguments its reference leaves the rows that the dense feed-forward leaves. -/
theorem same_fed (m : (ℓ : Loc Cert.DenseIdeal.nD Cert.DenseIdeal.τ Cert.DenseIdeal.sig) → Buf (Elt Ideal) ℓ)
    (m' : (ℓ : Loc Cert.DenseReferenceIdeal.nD Cert.DenseReferenceIdeal.τ Cert.DenseReferenceIdeal.sig) → Buf (Elt Ideal) ℓ) (c : Dev Cert.DenseIdeal.nD)
    (x0 : Cert.DenseReferenceIdeal.argX m' c = Cert.DenseIdeal.argX m c) (x1 : Cert.DenseReferenceIdeal.argSh m' c = Cert.DenseIdeal.argSh m c)
    (x2 : Cert.DenseReferenceIdeal.argSc m' c = Cert.DenseIdeal.argSc m c) (x3 : Cert.DenseReferenceIdeal.argG2 m' c = Cert.DenseIdeal.argG2 m c)
    (x4 : Cert.DenseReferenceIdeal.argNg m' c = Cert.DenseIdeal.argNg m c) (x5 : Cert.DenseReferenceIdeal.argWg m' c = Cert.DenseIdeal.argWg m c)
    (x6 : Cert.DenseReferenceIdeal.argWu m' c = Cert.DenseIdeal.argWu m c) (x7 : Cert.DenseReferenceIdeal.argWd m' c = Cert.DenseIdeal.argWd m c) :
    Eq (α := FVec Ideal Cert.DenseReferenceIdeal.S16384x1024 .f32) (Cert.DenseReferenceIdeal.outY m' c) (Cert.DenseIdeal.outY m c) := by
  funext i
  obtain ⟨R, l, rfl⟩ : ∃ (R : Fin 16384) (l : Fin 1024), i = ix2 R l := ⟨i 0, i 1, by funext a; match a with | ⟨0, _⟩ => rfl | ⟨1, _⟩ => rfl⟩
  refine (Cert.DenseReferenceIdeal.out_at m' c R l).trans (Eq.trans ?_ (Cert.DenseIdeal.out_at m c R l).symm)
  rw [x0, x1, x2, x3, x4, x5, x6, x7]
  rfl

/-- The dense feed-forward and its reference end with the same result on every device. -/
theorem algebraic_DenseIdeal_DenseReferenceIdeal : algebraic_DenseIdeal_DenseReferenceIdeal := by
  intro m ρ m' ρ' _ hagree
  refine ⟨Cert.DenseIdeal.outY m, Cert.DenseIdeal.run_outs m ρ, ?_⟩
  refine (θ_run Cert.DenseReferenceIdeal.defs _ _).mono (fun _ h c => ?_) (Cert.DenseReferenceIdeal.run_outs m' ρ')
  obtain ⟨g0, g1, g2, g3, g4, g5, g6, g7⟩ := hagree c
  exact ⟨(h c).1.trans (same_fed m m' c g0 g1 g2 g3 g4 g5 g6 g7), (h c).2⟩

/-- The merge's reference runs and stops, its arguments as they were. -/
theorem quiescent_MergeReferenceIdeal : quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- On the same arguments its reference leaves the rows that the merge leaves. -/
theorem same_merged (m : (ℓ : Loc Cert.MergeIdeal.nD Cert.MergeIdeal.τ Cert.MergeIdeal.sig) → Buf (Elt Ideal) ℓ)
    (m' : (ℓ : Loc Cert.MergeReferenceIdeal.nD Cert.MergeReferenceIdeal.τ Cert.MergeReferenceIdeal.sig) → Buf (Elt Ideal) ℓ) (c : Dev Cert.MergeIdeal.nD)
    (x0 : Cert.MergeReferenceIdeal.argX m' c = Cert.MergeIdeal.argX m c) (x1 : Cert.MergeReferenceIdeal.argYa m' c = Cert.MergeIdeal.argYa m c)
    (x2 : Cert.MergeReferenceIdeal.argYb m' c = Cert.MergeIdeal.argYb m c) (x3 : Cert.MergeReferenceIdeal.argYc m' c = Cert.MergeIdeal.argYc m c)
    (x4 : Cert.MergeReferenceIdeal.argGate m' c = Cert.MergeIdeal.argGate m c) (x5 : Cert.MergeReferenceIdeal.argG m' c = Cert.MergeIdeal.argG m c)
    (x6 : Cert.MergeReferenceIdeal.argWa m' c = Cert.MergeIdeal.argWa m c) (x7 : Cert.MergeReferenceIdeal.argWb m' c = Cert.MergeIdeal.argWb m c)
    (x8 : Cert.MergeReferenceIdeal.argWc m' c = Cert.MergeIdeal.argWc m c) (x9 : Cert.MergeReferenceIdeal.argWo m' c = Cert.MergeIdeal.argWo m c) :
    Eq (α := FVec Ideal Cert.MergeReferenceIdeal.S16384x1024 .f32) (Cert.MergeReferenceIdeal.outY m' c) (Cert.MergeIdeal.outY m c) := by
  funext i
  obtain ⟨R, l, rfl⟩ : ∃ (R : Fin 16384) (l : Fin 1024), i = ix2 R l := ⟨i 0, i 1, by funext a; match a with | ⟨0, _⟩ => rfl | ⟨1, _⟩ => rfl⟩
  refine (Cert.MergeReferenceIdeal.out_at m' c R l).trans (Eq.trans ?_ (Cert.MergeIdeal.out_at m c R l).symm)
  rw [x0, x1, x2, x3, x4, x5, x6, x7, x8, x9]
  rfl

/-- The merge and its reference end with the same result on every device. -/
theorem algebraic_MergeIdeal_MergeReferenceIdeal : algebraic_MergeIdeal_MergeReferenceIdeal := by
  intro m ρ m' ρ' _ hagree
  refine ⟨Cert.MergeIdeal.outY m, Cert.MergeIdeal.run_outs m ρ, ?_⟩
  refine (θ_run Cert.MergeReferenceIdeal.defs _ _).mono (fun _ h c => ?_) (Cert.MergeReferenceIdeal.run_outs m' ρ')
  obtain ⟨g0, g1, g2, g3, g4, g5, g6, g7, g8, g9⟩ := hagree c
  exact ⟨(h c).1.trans (same_merged m m' c g0 g1 g2 g3 g4 g5 g6 g7 g8 g9), (h c).2⟩

/-- Every claim. -/
theorem claim : Cert.Claim := ⟨Cert.Kernel.Gen.facts, Cert.KernelIdeal.Gen.facts, Cert.ReferenceIdeal.Gen.facts, Cert.Project.Gen.facts,
  Cert.ProjectIdeal.Gen.facts, Cert.ProjectReferenceIdeal.Gen.facts, Cert.Dense.Gen.facts, Cert.DenseIdeal.Gen.facts, Cert.DenseReferenceIdeal.Gen.facts,
  Cert.Merge.Gen.facts, Cert.MergeIdeal.Gen.facts, Cert.MergeReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite, fun m ρ _ => Cert.Project.Gen.frame m ρ, fun m ρ _ => Cert.ProjectIdeal.Gen.frame m ρ,
  quiescent_ProjectReferenceIdeal, fun m ρ _ => Cert.Dense.Gen.frame m ρ, fun m ρ _ => Cert.DenseIdeal.Gen.frame m ρ, quiescent_DenseReferenceIdeal,
  fun m ρ _ => Cert.Merge.Gen.frame m ρ, fun m ρ _ => Cert.MergeIdeal.Gen.frame m ρ, quiescent_MergeReferenceIdeal,
  (trivial : preserves_Kernel_KernelIdeal), algebraic_KernelIdeal_ReferenceIdeal_pre_finite, (trivial : preserves_Project_ProjectIdeal),
  algebraic_ProjectIdeal_ProjectReferenceIdeal, (trivial : preserves_Dense_DenseIdeal), algebraic_DenseIdeal_DenseReferenceIdeal,
  (trivial : preserves_Merge_MergeIdeal), algebraic_MergeIdeal_MergeReferenceIdeal⟩

end Cert.Proof

end
